-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "s" .f32 0x39800801#32 ((4095⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v199) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S8x512x512 : Shape := ⟨3, ![8, 512, 512]⟩
abbrev S8x8x128 : Shape := ⟨3, ![8, 8, 128]⟩
abbrev S7x4 : Shape := ⟨2, ![7, 4]⟩
abbrev S8 : Shape := ⟨1, ![8]⟩
abbrev S_ : Shape := ⟨0, ![]⟩
abbrev S128x512 : Shape := ⟨2, ![128, 512]⟩
abbrev S512x512 : Shape := ⟨2, ![512, 512]⟩
abbrev S1x128x512 : Shape := ⟨3, ![1, 128, 512]⟩
abbrev S1x1 : Shape := ⟨2, ![1, 1]⟩
abbrev S1 : Shape := ⟨1, ![1]⟩
abbrev S1x1x1 : Shape := ⟨3, ![1, 1, 1]⟩
abbrev S16 : Shape := ⟨1, ![16]⟩
abbrev S1x16 : Shape := ⟨2, ![1, 16]⟩
abbrev S1x8x128 : Shape := ⟨3, ![1, 8, 128]⟩
abbrev S8x128 : Shape := ⟨2, ![8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S512x2048, .f32⟩
  | .local _ .vmem, ⟨0, _⟩ => ⟨S4096x512, .bf16⟩
  | .local _ .vmem, ⟨1, _⟩ => ⟨S512x2048, .bf16⟩
  | .local _ .vmem, ⟨2, _⟩ => ⟨S512x2048, .f32⟩
  | .local _ .vmem, ⟨3, _⟩ => ⟨S4096x512, .bf16⟩
  | .local _ .vmem, ⟨4, _⟩ => ⟨S512x2048, .bf16⟩
  | .local _ .vmem, ⟨5, _⟩ => ⟨S8x512x512, .i32⟩
  | .local _ .vmem, ⟨6, _⟩ => ⟨S8x512x512, .i32⟩
  | .local _ .vmem, ⟨7, _⟩ => ⟨S8x8x128, .f32⟩
  | _, _ => ⟨S4096x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_42 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v41 : BitVec 32 := Scalar.subi v2 c1_i32_27
  let c8_i32_28 : BitVec 32 := 8#32
  let v42 : BitVec 32 := Scalar.addi v41 c8_i32_28
  let c8_i32_29 : BitVec 32 := 8#32
  let c0_i32_30 : BitVec 32 := 0#32
  let v43 : BitVec 1 := Scalar.cmpi .eq c8_i32_29 c0_i32_30
  let c1_i32_31 : BitVec 32 := 1#32
  let v44 : BitVec 32 := Scalar.select v43 c1_i32_31 c8_i32_29
  let v45 : BitVec 32 := Scalar.remsi v42 v44
  let c0_i32_33 : BitVec 32 := 0#32
  let v47 : BitVec 1 := Scalar.cmpi .slt v45 c0_i32_33
  let c0_i32_34 : BitVec 32 := 0#32
  let v48 : BitVec 1 := Scalar.cmpi .slt v44 c0_i32_34
  let v49 : BitVec 1 := Scalar.xori v47 v48
  let c0_i32_32 : BitVec 32 := 0#32
  let v46 : BitVec 1 := Scalar.cmpi .ne v45 c0_i32_32
  let v50 : BitVec 1 := Scalar.andi v49 v46
  let v51 : BitVec 32 := Scalar.addi v45 v44
  let v52 : BitVec 32 := Scalar.select v50 v51 v45
  let c512_i32 : BitVec 32 := 512#32
  let v64 : BitVec 32 := Scalar.muli v52 c512_i32
  let v65 : BitVec 32 := Scalar.addi v64 c0_i32_42
  let v66 : Index := Scalar.indexCast v65
  let c0_43 : Index := 0#32
  ![v66.toNat, 0]
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_66 : BitVec 32 := 1#32
  let v100 : BitVec 32 := Scalar.muli v25 c1_i32_66
  let v101 : BitVec 32 := Scalar.addi c0_i32_67 v100
  v101.toNat
def k0_off2 (d0 : Dev nD) (c0_i32_73 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v53 : BitVec 32 := Scalar.addi v2 c1_i32_35
  let c8_i32_36 : BitVec 32 := 8#32
  let c0_i32_37 : BitVec 32 := 0#32
  let v54 : BitVec 1 := Scalar.cmpi .eq c8_i32_36 c0_i32_37
  let c1_i32_38 : BitVec 32 := 1#32
  let v55 : BitVec 32 := Scalar.select v54 c1_i32_38 c8_i32_36
  let v56 : BitVec 32 := Scalar.remsi v53 v55
  let c0_i32_40 : BitVec 32 := 0#32
  let v58 : BitVec 1 := Scalar.cmpi .slt v56 c0_i32_40
  let c0_i32_41 : BitVec 32 := 0#32
  let v59 : BitVec 1 := Scalar.cmpi .slt v55 c0_i32_41
  let v60 : BitVec 1 := Scalar.xori v58 v59
  let c0_i32_39 : BitVec 32 := 0#32
  let v57 : BitVec 1 := Scalar.cmpi .ne v56 c0_i32_39
  let v61 : BitVec 1 := Scalar.andi v60 v57
  let v62 : BitVec 32 := Scalar.addi v56 v55
  let v63 : BitVec 32 := Scalar.select v61 v62 v56
  let c512_i32_72 : BitVec 32 := 512#32
  let v110 : BitVec 32 := Scalar.muli v63 c512_i32_72
  let v111 : BitVec 32 := Scalar.addi v110 c0_i32_73
  let v112 : Index := Scalar.indexCast v111
  let c0_74 : Index := 0#32
  ![v112.toNat, 0]
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_100 : BitVec 32 := 1#32
  let v146 : BitVec 32 := Scalar.muli v14 c1_i32_100
  let v147 : BitVec 32 := Scalar.addi c0_i32_101 v146
  v147.toNat
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_134 : BitVec 32 := 1#32
  let v192 : BitVec 32 := Scalar.muli v25 c1_i32_134
  let v193 : BitVec 32 := Scalar.addi c0_i32_135 v192
  v193.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_170 : BitVec 32 := 1#32
  let v238 : BitVec 32 := Scalar.muli v14 c1_i32_170
  let v239 : BitVec 32 := Scalar.addi c0_i32_171 v238
  v239.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_204 : BitVec 32 := 1#32
  let v284 : BitVec 32 := Scalar.muli v25 c1_i32_204
  let v285 : BitVec 32 := Scalar.addi c0_i32_205 v284
  v285.toNat
def k0_dev8 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_240 : BitVec 32 := 1#32
  let v330 : BitVec 32 := Scalar.muli v14 c1_i32_240
  let v331 : BitVec 32 := Scalar.addi c0_i32_241 v330
  v331.toNat
def k0_dev9 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_273 : BitVec 32 := 1#32
  let v376 : BitVec 32 := Scalar.muli v25 c1_i32_273
  let v377 : BitVec 32 := Scalar.addi c0_i32_274 v376
  v377.toNat
def k0_dev10 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_309 : BitVec 32 := 1#32
  let v422 : BitVec 32 := Scalar.muli v14 c1_i32_309
  let v423 : BitVec 32 := Scalar.addi c0_i32_310 v422
  v423.toNat
def k0_off3 (d0 : Dev nD) (c0_i32_316 : BitVec 32) (c0_i32_333 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_315 : BitVec 32 := 2#32
  let v432 : BitVec 32 := Scalar.subi v2 c2_i32_315
  let v433 : BitVec 32 := Scalar.subi v432 c0_i32_316
  let c16_i32_317 : BitVec 32 := 16#32
  let v434 : BitVec 32 := Scalar.addi v433 c16_i32_317
  let c8_i32_318 : BitVec 32 := 8#32
  let c0_i32_319 : BitVec 32 := 0#32
  let v435 : BitVec 1 := Scalar.cmpi .eq c8_i32_318 c0_i32_319
  let c1_i32_320 : BitVec 32 := 1#32
  let v436 : BitVec 32 := Scalar.select v435 c1_i32_320 c8_i32_318
  let v437 : BitVec 32 := Scalar.remsi v434 v436
  let c0_i32_322 : BitVec 32 := 0#32
  let v439 : BitVec 1 := Scalar.cmpi .slt v437 c0_i32_322
  let c0_i32_323 : BitVec 32 := 0#32
  let v440 : BitVec 1 := Scalar.cmpi .slt v436 c0_i32_323
  let v441 : BitVec 1 := Scalar.xori v439 v440
  let c0_i32_321 : BitVec 32 := 0#32
  let v438 : BitVec 1 := Scalar.cmpi .ne v437 c0_i32_321
  let v442 : BitVec 1 := Scalar.andi v441 v438
  let v443 : BitVec 32 := Scalar.addi v437 v436
  let v444 : BitVec 32 := Scalar.select v442 v443 v437
  let c512_i32_332 : BitVec 32 := 512#32
  let v457 : BitVec 32 := Scalar.muli v444 c512_i32_332
  let v458 : BitVec 32 := Scalar.addi v457 c0_i32_333
  let v459 : Index := Scalar.indexCast v458
  let c0_334 : Index := 0#32
  ![v459.toNat, 0]
def k0_off4 (d0 : Dev nD) (c0_i32_325 : BitVec 32) (c0_i32_345 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_324 : BitVec 32 := 2#32
  let v445 : BitVec 32 := Scalar.addi v2 c2_i32_324
  let v446 : BitVec 32 := Scalar.addi v445 c0_i32_325
  let c8_i32_326 : BitVec 32 := 8#32
  let c0_i32_327 : BitVec 32 := 0#32
  let v447 : BitVec 1 := Scalar.cmpi .eq c8_i32_326 c0_i32_327
  let c1_i32_328 : BitVec 32 := 1#32
  let v448 : BitVec 32 := Scalar.select v447 c1_i32_328 c8_i32_326
  let v449 : BitVec 32 := Scalar.remsi v446 v448
  let c0_i32_330 : BitVec 32 := 0#32
  let v451 : BitVec 1 := Scalar.cmpi .slt v449 c0_i32_330
  let c0_i32_331 : BitVec 32 := 0#32
  let v452 : BitVec 1 := Scalar.cmpi .slt v448 c0_i32_331
  let v453 : BitVec 1 := Scalar.xori v451 v452
  let c0_i32_329 : BitVec 32 := 0#32
  let v450 : BitVec 1 := Scalar.cmpi .ne v449 c0_i32_329
  let v454 : BitVec 1 := Scalar.andi v453 v450
  let v455 : BitVec 32 := Scalar.addi v449 v448
  let v456 : BitVec 32 := Scalar.select v454 v455 v449
  let c512_i32_344 : BitVec 32 := 512#32
  let v469 : BitVec 32 := Scalar.muli v456 c512_i32_344
  let v470 : BitVec 32 := Scalar.addi v469 c0_i32_345
  let v471 : Index := Scalar.indexCast v470
  let c0_346 : Index := 0#32
  ![v471.toNat, 0]
def k0_dev11 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_429 : BitVec 32 := 1#32
  let v585 : BitVec 32 := Scalar.muli v25 c1_i32_429
  let v586 : BitVec 32 := Scalar.addi c0_i32_430 v585
  v586.toNat
def k0_dev12 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_441 : BitVec 32 := 1#32
  let v595 : BitVec 32 := Scalar.muli v14 c1_i32_441
  let v596 : BitVec 32 := Scalar.addi c0_i32_442 v595
  v596.toNat
def k0_dev13 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_545 : BitVec 32 := 1#32
  let v733 : BitVec 32 := Scalar.muli v25 c1_i32_545
  let v734 : BitVec 32 := Scalar.addi c0_i32_546 v733
  v734.toNat
def k0_dev14 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_557 : BitVec 32 := 1#32
  let v743 : BitVec 32 := Scalar.muli v14 c1_i32_557
  let v744 : BitVec 32 := Scalar.addi c0_i32_558 v743
  v744.toNat
def k0_dev15 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_661 : BitVec 32 := 1#32
  let v881 : BitVec 32 := Scalar.muli v25 c1_i32_661
  let v882 : BitVec 32 := Scalar.addi c0_i32_662 v881
  v882.toNat
def k0_dev16 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_673 : BitVec 32 := 1#32
  let v891 : BitVec 32 := Scalar.muli v14 c1_i32_673
  let v892 : BitVec 32 := Scalar.addi c0_i32_674 v891
  v892.toNat
def k0_dev17 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_777 : BitVec 32 := 1#32
  let v1029 : BitVec 32 := Scalar.muli v25 c1_i32_777
  let v1030 : BitVec 32 := Scalar.addi c0_i32_778 v1029
  v1030.toNat
def k0_dev18 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_789 : BitVec 32 := 1#32
  let v1039 : BitVec 32 := Scalar.muli v14 c1_i32_789
  let v1040 : BitVec 32 := Scalar.addi c0_i32_790 v1039
  v1040.toNat
def k0_dev19 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_909 : BitVec 32 := 1#32
  let v1202 : BitVec 32 := Scalar.muli v25 c1_i32_909
  let v1203 : BitVec 32 := Scalar.addi c0_i32_910 v1202
  v1203.toNat
def k0_dev20 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_921 : BitVec 32 := 1#32
  let v1212 : BitVec 32 := Scalar.muli v14 c1_i32_921
  let v1213 : BitVec 32 := Scalar.addi c0_i32_922 v1212
  v1213.toNat
def k0_dev21 (d0 : Dev nD) : Nat :=
  let c0_i32_1026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1025 : BitVec 32 := 1#32
  let v1350 : BitVec 32 := Scalar.muli v25 c1_i32_1025
  let v1351 : BitVec 32 := Scalar.addi c0_i32_1026 v1350
  v1351.toNat
def k0_dev22 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1037 : BitVec 32 := 1#32
  let v1360 : BitVec 32 := Scalar.muli v14 c1_i32_1037
  let v1361 : BitVec 32 := Scalar.addi c0_i32_1038 v1360
  v1361.toNat
def k0_dev23 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1141 : BitVec 32 := 1#32
  let v1498 : BitVec 32 := Scalar.muli v25 c1_i32_1141
  let v1499 : BitVec 32 := Scalar.addi c0_i32_1142 v1498
  v1499.toNat
def k0_dev24 (d0 : Dev nD) : Nat :=
  let c0_i32_1154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1153 : BitVec 32 := 1#32
  let v1508 : BitVec 32 := Scalar.muli v14 c1_i32_1153
  let v1509 : BitVec 32 := Scalar.addi c0_i32_1154 v1508
  v1509.toNat
def k0_dev25 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1257 : BitVec 32 := 1#32
  let v1646 : BitVec 32 := Scalar.muli v25 c1_i32_1257
  let v1647 : BitVec 32 := Scalar.addi c0_i32_1258 v1646
  v1647.toNat
def k0_dev26 (d0 : Dev nD) : Nat :=
  let c0_i32_1270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1269 : BitVec 32 := 1#32
  let v1656 : BitVec 32 := Scalar.muli v14 c1_i32_1269
  let v1657 : BitVec 32 := Scalar.addi c0_i32_1270 v1656
  v1657.toNat
def k0_dev27 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1389 : BitVec 32 := 1#32
  let v1819 : BitVec 32 := Scalar.muli v25 c1_i32_1389
  let v1820 : BitVec 32 := Scalar.addi c0_i32_1390 v1819
  v1820.toNat
def k0_dev28 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1401 : BitVec 32 := 1#32
  let v1829 : BitVec 32 := Scalar.muli v14 c1_i32_1401
  let v1830 : BitVec 32 := Scalar.addi c0_i32_1402 v1829
  v1830.toNat
def k0_dev29 (d0 : Dev nD) : Nat :=
  let c0_i32_1506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1505 : BitVec 32 := 1#32
  let v1967 : BitVec 32 := Scalar.muli v25 c1_i32_1505
  let v1968 : BitVec 32 := Scalar.addi c0_i32_1506 v1967
  v1968.toNat
def k0_dev30 (d0 : Dev nD) : Nat :=
  let c0_i32_1518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1517 : BitVec 32 := 1#32
  let v1977 : BitVec 32 := Scalar.muli v14 c1_i32_1517
  let v1978 : BitVec 32 := Scalar.addi c0_i32_1518 v1977
  v1978.toNat
def k0_dev31 (d0 : Dev nD) : Nat :=
  let c0_i32_1622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1621 : BitVec 32 := 1#32
  let v2115 : BitVec 32 := Scalar.muli v25 c1_i32_1621
  let v2116 : BitVec 32 := Scalar.addi c0_i32_1622 v2115
  v2116.toNat
def k0_dev32 (d0 : Dev nD) : Nat :=
  let c0_i32_1634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1633 : BitVec 32 := 1#32
  let v2125 : BitVec 32 := Scalar.muli v14 c1_i32_1633
  let v2126 : BitVec 32 := Scalar.addi c0_i32_1634 v2125
  v2126.toNat
def k0_dev33 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1737 : BitVec 32 := 1#32
  let v2263 : BitVec 32 := Scalar.muli v25 c1_i32_1737
  let v2264 : BitVec 32 := Scalar.addi c0_i32_1738 v2263
  v2264.toNat
def k0_dev34 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1749 : BitVec 32 := 1#32
  let v2273 : BitVec 32 := Scalar.muli v14 c1_i32_1749
  let v2274 : BitVec 32 := Scalar.addi c0_i32_1750 v2273
  v2274.toNat
def k0_dev35 (d0 : Dev nD) : Nat :=
  let c0_i32_1869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1868 : BitVec 32 := 1#32
  let v2436 : BitVec 32 := Scalar.muli v25 c1_i32_1868
  let v2437 : BitVec 32 := Scalar.addi c0_i32_1869 v2436
  v2437.toNat
def k0_dev36 (d0 : Dev nD) : Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1880 : BitVec 32 := 1#32
  let v2446 : BitVec 32 := Scalar.muli v14 c1_i32_1880
  let v2447 : BitVec 32 := Scalar.addi c0_i32_1881 v2446
  v2447.toNat
def k0_dev37 (d0 : Dev nD) : Nat :=
  let c0_i32_1985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1984 : BitVec 32 := 1#32
  let v2584 : BitVec 32 := Scalar.muli v25 c1_i32_1984
  let v2585 : BitVec 32 := Scalar.addi c0_i32_1985 v2584
  v2585.toNat
def k0_dev38 (d0 : Dev nD) : Nat :=
  let c0_i32_1997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1996 : BitVec 32 := 1#32
  let v2594 : BitVec 32 := Scalar.muli v14 c1_i32_1996
  let v2595 : BitVec 32 := Scalar.addi c0_i32_1997 v2594
  v2595.toNat
def k0_dev39 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2100 : BitVec 32 := 1#32
  let v2732 : BitVec 32 := Scalar.muli v25 c1_i32_2100
  let v2733 : BitVec 32 := Scalar.addi c0_i32_2101 v2732
  v2733.toNat
def k0_dev40 (d0 : Dev nD) : Nat :=
  let c0_i32_2113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2112 : BitVec 32 := 1#32
  let v2742 : BitVec 32 := Scalar.muli v14 c1_i32_2112
  let v2743 : BitVec 32 := Scalar.addi c0_i32_2113 v2742
  v2743.toNat
def k0_dev41 (d0 : Dev nD) : Nat :=
  let c0_i32_2217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2216 : BitVec 32 := 1#32
  let v2880 : BitVec 32 := Scalar.muli v25 c1_i32_2216
  let v2881 : BitVec 32 := Scalar.addi c0_i32_2217 v2880
  v2881.toNat
def k0_dev42 (d0 : Dev nD) : Nat :=
  let c0_i32_2229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2228 : BitVec 32 := 1#32
  let v2890 : BitVec 32 := Scalar.muli v14 c1_i32_2228
  let v2891 : BitVec 32 := Scalar.addi c0_i32_2229 v2890
  v2891.toNat
def k0_dev43 (d0 : Dev nD) : Nat :=
  let c0_i32_2348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2347 : BitVec 32 := 1#32
  let v3053 : BitVec 32 := Scalar.muli v25 c1_i32_2347
  let v3054 : BitVec 32 := Scalar.addi c0_i32_2348 v3053
  v3054.toNat
def k0_dev44 (d0 : Dev nD) : Nat :=
  let c0_i32_2360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2359 : BitVec 32 := 1#32
  let v3063 : BitVec 32 := Scalar.muli v14 c1_i32_2359
  let v3064 : BitVec 32 := Scalar.addi c0_i32_2360 v3063
  v3064.toNat
def k0_dev45 (d0 : Dev nD) : Nat :=
  let c0_i32_2464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2463 : BitVec 32 := 1#32
  let v3201 : BitVec 32 := Scalar.muli v25 c1_i32_2463
  let v3202 : BitVec 32 := Scalar.addi c0_i32_2464 v3201
  v3202.toNat
def k0_dev46 (d0 : Dev nD) : Nat :=
  let c0_i32_2476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2475 : BitVec 32 := 1#32
  let v3211 : BitVec 32 := Scalar.muli v14 c1_i32_2475
  let v3212 : BitVec 32 := Scalar.addi c0_i32_2476 v3211
  v3212.toNat
def k0_dev47 (d0 : Dev nD) : Nat :=
  let c0_i32_2580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2579 : BitVec 32 := 1#32
  let v3349 : BitVec 32 := Scalar.muli v25 c1_i32_2579
  let v3350 : BitVec 32 := Scalar.addi c0_i32_2580 v3349
  v3350.toNat
def k0_dev48 (d0 : Dev nD) : Nat :=
  let c0_i32_2592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2591 : BitVec 32 := 1#32
  let v3359 : BitVec 32 := Scalar.muli v14 c1_i32_2591
  let v3360 : BitVec 32 := Scalar.addi c0_i32_2592 v3359
  v3360.toNat
def k0_dev49 (d0 : Dev nD) : Nat :=
  let c0_i32_2696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2695 : BitVec 32 := 1#32
  let v3497 : BitVec 32 := Scalar.muli v25 c1_i32_2695
  let v3498 : BitVec 32 := Scalar.addi c0_i32_2696 v3497
  v3498.toNat
def k0_dev50 (d0 : Dev nD) : Nat :=
  let c0_i32_2708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2707 : BitVec 32 := 1#32
  let v3507 : BitVec 32 := Scalar.muli v14 c1_i32_2707
  let v3508 : BitVec 32 := Scalar.addi c0_i32_2708 v3507
  v3508.toNat
def k0_dev51 (d0 : Dev nD) : Nat :=
  let c0_i32_2827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2826 : BitVec 32 := 1#32
  let v3670 : BitVec 32 := Scalar.muli v25 c1_i32_2826
  let v3671 : BitVec 32 := Scalar.addi c0_i32_2827 v3670
  v3671.toNat
def k0_dev52 (d0 : Dev nD) : Nat :=
  let c0_i32_2839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2838 : BitVec 32 := 1#32
  let v3680 : BitVec 32 := Scalar.muli v14 c1_i32_2838
  let v3681 : BitVec 32 := Scalar.addi c0_i32_2839 v3680
  v3681.toNat
def k0_dev53 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2942 : BitVec 32 := 1#32
  let v3818 : BitVec 32 := Scalar.muli v25 c1_i32_2942
  let v3819 : BitVec 32 := Scalar.addi c0_i32_2943 v3818
  v3819.toNat
def k0_dev54 (d0 : Dev nD) : Nat :=
  let c0_i32_2955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2954 : BitVec 32 := 1#32
  let v3828 : BitVec 32 := Scalar.muli v14 c1_i32_2954
  let v3829 : BitVec 32 := Scalar.addi c0_i32_2955 v3828
  v3829.toNat
def k0_dev55 (d0 : Dev nD) : Nat :=
  let c0_i32_3059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3058 : BitVec 32 := 1#32
  let v3966 : BitVec 32 := Scalar.muli v25 c1_i32_3058
  let v3967 : BitVec 32 := Scalar.addi c0_i32_3059 v3966
  v3967.toNat
def k0_dev56 (d0 : Dev nD) : Nat :=
  let c0_i32_3071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3070 : BitVec 32 := 1#32
  let v3976 : BitVec 32 := Scalar.muli v14 c1_i32_3070
  let v3977 : BitVec 32 := Scalar.addi c0_i32_3071 v3976
  v3977.toNat
def k0_dev57 (d0 : Dev nD) : Nat :=
  let c0_i32_3175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3174 : BitVec 32 := 1#32
  let v4114 : BitVec 32 := Scalar.muli v25 c1_i32_3174
  let v4115 : BitVec 32 := Scalar.addi c0_i32_3175 v4114
  v4115.toNat
def k0_dev58 (d0 : Dev nD) : Nat :=
  let c0_i32_3187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3186 : BitVec 32 := 1#32
  let v4124 : BitVec 32 := Scalar.muli v14 c1_i32_3186
  let v4125 : BitVec 32 := Scalar.addi c0_i32_3187 v4124
  v4125.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4581 : Index := Scalar.indexCast v2
  let c0_3497 : Index := 0#32
  let c0_3498 : Index := 0#32
  ![v4581.toNat, 0, 0]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3509 : BitVec 32 := 0#32
  let c0_i32_3510 : BitVec 32 := 0#32
  ![v2.toNat, 0, 0]
def k0_dev59 (d0 : Dev nD) : Nat :=
  let c0_i32_3508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3499 : BitVec 32 := 1#32
  let v4585 : BitVec 32 := Scalar.addi v2 c1_i32_3499
  let c8_i32_3500 : BitVec 32 := 8#32
  let c0_i32_3501 : BitVec 32 := 0#32
  let v4586 : BitVec 1 := Scalar.cmpi .eq c8_i32_3500 c0_i32_3501
  let c1_i32_3502 : BitVec 32 := 1#32
  let v4587 : BitVec 32 := Scalar.select v4586 c1_i32_3502 c8_i32_3500
  let v4588 : BitVec 32 := Scalar.remsi v4585 v4587
  let c0_i32_3504 : BitVec 32 := 0#32
  let v4590 : BitVec 1 := Scalar.cmpi .slt v4588 c0_i32_3504
  let c0_i32_3505 : BitVec 32 := 0#32
  let v4591 : BitVec 1 := Scalar.cmpi .slt v4587 c0_i32_3505
  let v4592 : BitVec 1 := Scalar.xori v4590 v4591
  let c0_i32_3503 : BitVec 32 := 0#32
  let v4589 : BitVec 1 := Scalar.cmpi .ne v4588 c0_i32_3503
  let v4593 : BitVec 1 := Scalar.andi v4592 v4589
  let v4594 : BitVec 32 := Scalar.addi v4588 v4587
  let v4595 : BitVec 32 := Scalar.select v4593 v4594 v4588
  let c1_i32_3507 : BitVec 32 := 1#32
  let v4596 : BitVec 32 := Scalar.muli v4595 c1_i32_3507
  let v4597 : BitVec 32 := Scalar.addi c0_i32_3508 v4596
  v4597.toNat
def k0_dev60 (d0 : Dev nD) : Nat :=
  let c0_i32_3522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3513 : BitVec 32 := 2#32
  let v4606 : BitVec 32 := Scalar.addi v2 c2_i32_3513
  let c8_i32_3514 : BitVec 32 := 8#32
  let c0_i32_3515 : BitVec 32 := 0#32
  let v4607 : BitVec 1 := Scalar.cmpi .eq c8_i32_3514 c0_i32_3515
  let c1_i32_3516 : BitVec 32 := 1#32
  let v4608 : BitVec 32 := Scalar.select v4607 c1_i32_3516 c8_i32_3514
  let v4609 : BitVec 32 := Scalar.remsi v4606 v4608
  let c0_i32_3518 : BitVec 32 := 0#32
  let v4611 : BitVec 1 := Scalar.cmpi .slt v4609 c0_i32_3518
  let c0_i32_3519 : BitVec 32 := 0#32
  let v4612 : BitVec 1 := Scalar.cmpi .slt v4608 c0_i32_3519
  let v4613 : BitVec 1 := Scalar.xori v4611 v4612
  let c0_i32_3517 : BitVec 32 := 0#32
  let v4610 : BitVec 1 := Scalar.cmpi .ne v4609 c0_i32_3517
  let v4614 : BitVec 1 := Scalar.andi v4613 v4610
  let v4615 : BitVec 32 := Scalar.addi v4609 v4608
  let v4616 : BitVec 32 := Scalar.select v4614 v4615 v4609
  let c1_i32_3521 : BitVec 32 := 1#32
  let v4617 : BitVec 32 := Scalar.muli v4616 c1_i32_3521
  let v4618 : BitVec 32 := Scalar.addi c0_i32_3522 v4617
  v4618.toNat
def k0_dev61 (d0 : Dev nD) : Nat :=
  let c0_i32_3536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3527 : BitVec 32 := 3#32
  let v4627 : BitVec 32 := Scalar.addi v2 c3_i32_3527
  let c8_i32_3528 : BitVec 32 := 8#32
  let c0_i32_3529 : BitVec 32 := 0#32
  let v4628 : BitVec 1 := Scalar.cmpi .eq c8_i32_3528 c0_i32_3529
  let c1_i32_3530 : BitVec 32 := 1#32
  let v4629 : BitVec 32 := Scalar.select v4628 c1_i32_3530 c8_i32_3528
  let v4630 : BitVec 32 := Scalar.remsi v4627 v4629
  let c0_i32_3532 : BitVec 32 := 0#32
  let v4632 : BitVec 1 := Scalar.cmpi .slt v4630 c0_i32_3532
  let c0_i32_3533 : BitVec 32 := 0#32
  let v4633 : BitVec 1 := Scalar.cmpi .slt v4629 c0_i32_3533
  let v4634 : BitVec 1 := Scalar.xori v4632 v4633
  let c0_i32_3531 : BitVec 32 := 0#32
  let v4631 : BitVec 1 := Scalar.cmpi .ne v4630 c0_i32_3531
  let v4635 : BitVec 1 := Scalar.andi v4634 v4631
  let v4636 : BitVec 32 := Scalar.addi v4630 v4629
  let v4637 : BitVec 32 := Scalar.select v4635 v4636 v4630
  let c1_i32_3535 : BitVec 32 := 1#32
  let v4638 : BitVec 32 := Scalar.muli v4637 c1_i32_3535
  let v4639 : BitVec 32 := Scalar.addi c0_i32_3536 v4638
  v4639.toNat
def k0_dev62 (d0 : Dev nD) : Nat :=
  let c0_i32_3550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3541 : BitVec 32 := 4#32
  let v4648 : BitVec 32 := Scalar.addi v2 c4_i32_3541
  let c8_i32_3542 : BitVec 32 := 8#32
  let c0_i32_3543 : BitVec 32 := 0#32
  let v4649 : BitVec 1 := Scalar.cmpi .eq c8_i32_3542 c0_i32_3543
  let c1_i32_3544 : BitVec 32 := 1#32
  let v4650 : BitVec 32 := Scalar.select v4649 c1_i32_3544 c8_i32_3542
  let v4651 : BitVec 32 := Scalar.remsi v4648 v4650
  let c0_i32_3546 : BitVec 32 := 0#32
  let v4653 : BitVec 1 := Scalar.cmpi .slt v4651 c0_i32_3546
  let c0_i32_3547 : BitVec 32 := 0#32
  let v4654 : BitVec 1 := Scalar.cmpi .slt v4650 c0_i32_3547
  let v4655 : BitVec 1 := Scalar.xori v4653 v4654
  let c0_i32_3545 : BitVec 32 := 0#32
  let v4652 : BitVec 1 := Scalar.cmpi .ne v4651 c0_i32_3545
  let v4656 : BitVec 1 := Scalar.andi v4655 v4652
  let v4657 : BitVec 32 := Scalar.addi v4651 v4650
  let v4658 : BitVec 32 := Scalar.select v4656 v4657 v4651
  let c1_i32_3549 : BitVec 32 := 1#32
  let v4659 : BitVec 32 := Scalar.muli v4658 c1_i32_3549
  let v4660 : BitVec 32 := Scalar.addi c0_i32_3550 v4659
  v4660.toNat
def k0_dev63 (d0 : Dev nD) : Nat :=
  let c0_i32_3564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3555 : BitVec 32 := 5#32
  let v4669 : BitVec 32 := Scalar.addi v2 c5_i32_3555
  let c8_i32_3556 : BitVec 32 := 8#32
  let c0_i32_3557 : BitVec 32 := 0#32
  let v4670 : BitVec 1 := Scalar.cmpi .eq c8_i32_3556 c0_i32_3557
  let c1_i32_3558 : BitVec 32 := 1#32
  let v4671 : BitVec 32 := Scalar.select v4670 c1_i32_3558 c8_i32_3556
  let v4672 : BitVec 32 := Scalar.remsi v4669 v4671
  let c0_i32_3560 : BitVec 32 := 0#32
  let v4674 : BitVec 1 := Scalar.cmpi .slt v4672 c0_i32_3560
  let c0_i32_3561 : BitVec 32 := 0#32
  let v4675 : BitVec 1 := Scalar.cmpi .slt v4671 c0_i32_3561
  let v4676 : BitVec 1 := Scalar.xori v4674 v4675
  let c0_i32_3559 : BitVec 32 := 0#32
  let v4673 : BitVec 1 := Scalar.cmpi .ne v4672 c0_i32_3559
  let v4677 : BitVec 1 := Scalar.andi v4676 v4673
  let v4678 : BitVec 32 := Scalar.addi v4672 v4671
  let v4679 : BitVec 32 := Scalar.select v4677 v4678 v4672
  let c1_i32_3563 : BitVec 32 := 1#32
  let v4680 : BitVec 32 := Scalar.muli v4679 c1_i32_3563
  let v4681 : BitVec 32 := Scalar.addi c0_i32_3564 v4680
  v4681.toNat
def k0_dev64 (d0 : Dev nD) : Nat :=
  let c0_i32_3578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3569 : BitVec 32 := 6#32
  let v4690 : BitVec 32 := Scalar.addi v2 c6_i32_3569
  let c8_i32_3570 : BitVec 32 := 8#32
  let c0_i32_3571 : BitVec 32 := 0#32
  let v4691 : BitVec 1 := Scalar.cmpi .eq c8_i32_3570 c0_i32_3571
  let c1_i32_3572 : BitVec 32 := 1#32
  let v4692 : BitVec 32 := Scalar.select v4691 c1_i32_3572 c8_i32_3570
  let v4693 : BitVec 32 := Scalar.remsi v4690 v4692
  let c0_i32_3574 : BitVec 32 := 0#32
  let v4695 : BitVec 1 := Scalar.cmpi .slt v4693 c0_i32_3574
  let c0_i32_3575 : BitVec 32 := 0#32
  let v4696 : BitVec 1 := Scalar.cmpi .slt v4692 c0_i32_3575
  let v4697 : BitVec 1 := Scalar.xori v4695 v4696
  let c0_i32_3573 : BitVec 32 := 0#32
  let v4694 : BitVec 1 := Scalar.cmpi .ne v4693 c0_i32_3573
  let v4698 : BitVec 1 := Scalar.andi v4697 v4694
  let v4699 : BitVec 32 := Scalar.addi v4693 v4692
  let v4700 : BitVec 32 := Scalar.select v4698 v4699 v4693
  let c1_i32_3577 : BitVec 32 := 1#32
  let v4701 : BitVec 32 := Scalar.muli v4700 c1_i32_3577
  let v4702 : BitVec 32 := Scalar.addi c0_i32_3578 v4701
  v4702.toNat
def k0_dev65 (d0 : Dev nD) : Nat :=
  let c0_i32_3592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3583 : BitVec 32 := 7#32
  let v4711 : BitVec 32 := Scalar.addi v2 c7_i32_3583
  let c8_i32_3584 : BitVec 32 := 8#32
  let c0_i32_3585 : BitVec 32 := 0#32
  let v4712 : BitVec 1 := Scalar.cmpi .eq c8_i32_3584 c0_i32_3585
  let c1_i32_3586 : BitVec 32 := 1#32
  let v4713 : BitVec 32 := Scalar.select v4712 c1_i32_3586 c8_i32_3584
  let v4714 : BitVec 32 := Scalar.remsi v4711 v4713
  let c0_i32_3588 : BitVec 32 := 0#32
  let v4716 : BitVec 1 := Scalar.cmpi .slt v4714 c0_i32_3588
  let c0_i32_3589 : BitVec 32 := 0#32
  let v4717 : BitVec 1 := Scalar.cmpi .slt v4713 c0_i32_3589
  let v4718 : BitVec 1 := Scalar.xori v4716 v4717
  let c0_i32_3587 : BitVec 32 := 0#32
  let v4715 : BitVec 1 := Scalar.cmpi .ne v4714 c0_i32_3587
  let v4719 : BitVec 1 := Scalar.andi v4718 v4715
  let v4720 : BitVec 32 := Scalar.addi v4714 v4713
  let v4721 : BitVec 32 := Scalar.select v4719 v4720 v4714
  let c1_i32_3591 : BitVec 32 := 1#32
  let v4722 : BitVec 32 := Scalar.muli v4721 c1_i32_3591
  let v4723 : BitVec 32 := Scalar.addi c0_i32_3592 v4722
  v4723.toNat
def k0_off8 (d0 : Dev nD) (c1_i32_3597 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4732 : BitVec 32 := Scalar.addi v2 c1_i32_3597
  let c8_i32_3598 : BitVec 32 := 8#32
  let c0_i32_3599 : BitVec 32 := 0#32
  let v4733 : BitVec 1 := Scalar.cmpi .eq c8_i32_3598 c0_i32_3599
  let c1_i32_3600 : BitVec 32 := 1#32
  let v4734 : BitVec 32 := Scalar.select v4733 c1_i32_3600 c8_i32_3598
  let v4735 : BitVec 32 := Scalar.remsi v4732 v4734
  let c0_i32_3602 : BitVec 32 := 0#32
  let v4737 : BitVec 1 := Scalar.cmpi .slt v4735 c0_i32_3602
  let c0_i32_3603 : BitVec 32 := 0#32
  let v4738 : BitVec 1 := Scalar.cmpi .slt v4734 c0_i32_3603
  let v4739 : BitVec 1 := Scalar.xori v4737 v4738
  let c0_i32_3601 : BitVec 32 := 0#32
  let v4736 : BitVec 1 := Scalar.cmpi .ne v4735 c0_i32_3601
  let v4740 : BitVec 1 := Scalar.andi v4739 v4736
  let v4741 : BitVec 32 := Scalar.addi v4735 v4734
  let v4742 : BitVec 32 := Scalar.select v4740 v4741 v4735
  ![v4742.toNat]
def k0_off9 (d0 : Dev nD) (c1_i32_3597 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4732 : BitVec 32 := Scalar.addi v2 c1_i32_3597
  let c8_i32_3598 : BitVec 32 := 8#32
  let c0_i32_3599 : BitVec 32 := 0#32
  let v4733 : BitVec 1 := Scalar.cmpi .eq c8_i32_3598 c0_i32_3599
  let c1_i32_3600 : BitVec 32 := 1#32
  let v4734 : BitVec 32 := Scalar.select v4733 c1_i32_3600 c8_i32_3598
  let v4735 : BitVec 32 := Scalar.remsi v4732 v4734
  let c0_i32_3602 : BitVec 32 := 0#32
  let v4737 : BitVec 1 := Scalar.cmpi .slt v4735 c0_i32_3602
  let c0_i32_3603 : BitVec 32 := 0#32
  let v4738 : BitVec 1 := Scalar.cmpi .slt v4734 c0_i32_3603
  let v4739 : BitVec 1 := Scalar.xori v4737 v4738
  let c0_i32_3601 : BitVec 32 := 0#32
  let v4736 : BitVec 1 := Scalar.cmpi .ne v4735 c0_i32_3601
  let v4740 : BitVec 1 := Scalar.andi v4739 v4736
  let v4741 : BitVec 32 := Scalar.addi v4735 v4734
  let v4742 : BitVec 32 := Scalar.select v4740 v4741 v4735
  let c0_i32_3607 : BitVec 32 := 0#32
  let c0_i32_3608 : BitVec 32 := 0#32
  ![v4742.toNat, 0, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "s" => some ((4095⁻¹ : ℝ) : EReal)
  | _ => none
-- ==== ReferenceIdeal.lean ====
abbrev S4096x4096 : Shape := ⟨2, ![4096, 4096]⟩
abbrev S4096x2048 : Shape := ⟨2, ![4096, 2048]⟩
abbrev S4096x8x512 : Shape := ⟨3, ![4096, 8, 512]⟩
abbrev S8x512x2048 : Shape := ⟨3, ![8, 512, 2048]⟩
abbrev S8x4096x2048 : Shape := ⟨3, ![8, 4096, 2048]⟩
abbrev S16x4096x2048 : Shape := ⟨3, ![16, 4096, 2048]⟩
abbrev S128x512x2048 : Shape := ⟨3, ![128, 512, 2048]⟩
abbrev S8x512x1024 : Shape := ⟨3, ![8, 512, 1024]⟩
abbrev S_ : Shape := ⟨0, ![]⟩
abbrev S4096x1024 : Shape := ⟨2, ![4096, 1024]⟩

abbrev nBuf : Space → Nat
  | .hbm => 365
  | .vmem => 0
  | .smem => 0
  | _ => 0

abbrev hbmTy0_0 (i : Nat) : BufTy := match i % 128 with
  | 0 => ⟨S4096x4096, .bf16⟩
  | 1 => ⟨S4096x2048, .bf16⟩
  | 2 => ⟨S4096x8x512, .bf16⟩
  | 3 => ⟨S8x512x2048, .bf16⟩
  | 4 => ⟨S8x4096x2048, .f32⟩
  | 5 => ⟨S16x4096x2048, .f32⟩
  | 6 => ⟨S128x512x2048, .f32⟩
  | 7 => ⟨S8x512x1024, .f32⟩
  | 8 => ⟨S_, .f32⟩
  | 9 => ⟨S8x512x1024, .f32⟩
  | 10 => ⟨S8x512x1024, .f32⟩
  | 11 => ⟨S_, .f32⟩
  | 12 => ⟨S_, .f32⟩
  | 13 => ⟨S_, .f32⟩
  | 14 => ⟨S8x512x1024, .f32⟩
  | 15 => ⟨S8x512x1024, .f32⟩
  | 16 => ⟨S_, .f32⟩
  | 17 => ⟨S8x512x1024, .f32⟩
  | 18 => ⟨S8x512x1024, .f32⟩
  | 19 => ⟨S_, .f32⟩
  | 20 => ⟨S8x512x1024, .f32⟩
  | 21 => ⟨S8x512x1024, .f32⟩
  | 22 => ⟨S8x512x1024, .i32⟩
  | 23 => ⟨S8x512x1024, .f32⟩
  | 24 => ⟨S_, .f32⟩
  | 25 => ⟨S8x512x1024, .f32⟩
  | 26 => ⟨S8x512x1024, .f32⟩
  | 27 => ⟨S_, .f32⟩
  | 28 => ⟨S8x512x1024, .f32⟩
  | 29 => ⟨S8x512x1024, .f32⟩
  | 30 => ⟨S8x512x1024, .f32⟩
  | 31 => ⟨S8x512x1024, .f32⟩
  | 32 => ⟨S_, .f32⟩
  | 33 => ⟨S8x512x1024, .f32⟩
  | 34 => ⟨S8x512x1024, .f32⟩
  | 35 => ⟨S_, .f32⟩
  | 36 => ⟨S_, .f32⟩
  | 37 => ⟨S_, .f32⟩
  | 38 => ⟨S8x512x1024, .f32⟩
  | 39 => ⟨S8x512x1024, .f32⟩
  | 40 => ⟨S_, .f32⟩
  | 41 => ⟨S8x512x1024, .f32⟩
  | 42 => ⟨S8x512x1024, .f32⟩
  | 43 => ⟨S_, .f32⟩
  | 44 => ⟨S8x512x1024, .f32⟩
  | 45 => ⟨S8x512x1024, .f32⟩
  | 46 => ⟨S8x512x1024, .i32⟩
  | 47 => ⟨S8x512x1024, .f32⟩
  | 48 => ⟨S_, .f32⟩
  | 49 => ⟨S8x512x1024, .f32⟩
  | 50 => ⟨S8x512x1024, .f32⟩
  | 51 => ⟨S_, .f32⟩
  | 52 => ⟨S8x512x1024, .f32⟩
  | 53 => ⟨S8x512x1024, .f32⟩
  | 54 => ⟨S8x512x1024, .f32⟩
  | 55 => ⟨S8x512x1024, .f32⟩
  | 56 => ⟨S_, .f32⟩
  | 57 => ⟨S8x512x1024, .f32⟩
  | 58 => ⟨S8x512x1024, .f32⟩
  | 59 => ⟨S_, .f32⟩
  | 60 => ⟨S_, .f32⟩
  | 61 => ⟨S_, .f32⟩
  | 62 => ⟨S8x512x1024, .f32⟩
  | 63 => ⟨S8x512x1024, .f32⟩
  | 64 => ⟨S_, .f32⟩
  | 65 => ⟨S8x512x1024, .f32⟩
  | 66 => ⟨S8x512x1024, .f32⟩
  | 67 => ⟨S_, .f32⟩
  | 68 => ⟨S8x512x1024, .f32⟩
  | 69 => ⟨S8x512x1024, .f32⟩
  | 70 => ⟨S8x512x1024, .i32⟩
  | 71 => ⟨S8x512x1024, .f32⟩
  | 72 => ⟨S_, .f32⟩
  | 73 => ⟨S8x512x1024, .f32⟩
  | 74 => ⟨S8x512x1024, .f32⟩
  | 75 => ⟨S_, .f32⟩
  | 76 => ⟨S8x512x1024, .f32⟩
  | 77 => ⟨S8x512x1024, .f32⟩
  | 78 => ⟨S8x512x1024, .f32⟩
  | 79 => ⟨S8x512x1024, .f32⟩
  | 80 => ⟨S_, .f32⟩
  | 81 => ⟨S8x512x1024, .f32⟩
  | 82 => ⟨S8x512x1024, .f32⟩
  | 83 => ⟨S_, .f32⟩
  | 84 => ⟨S_, .f32⟩
  | 85 => ⟨S_, .f32⟩
  | 86 => ⟨S8x512x1024, .f32⟩
  | 87 => ⟨S8x512x1024, .f32⟩
  | 88 => ⟨S_, .f32⟩
  | 89 => ⟨S8x512x1024, .f32⟩
  | 90 => ⟨S8x512x1024, .f32⟩
  | 91 => ⟨S_, .f32⟩
  | 92 => ⟨S8x512x1024, .f32⟩
  | 93 => ⟨S8x512x1024, .f32⟩
  | 94 => ⟨S8x512x1024, .i32⟩
  | 95 => ⟨S8x512x1024, .f32⟩
  | 96 => ⟨S_, .f32⟩
  | 97 => ⟨S8x512x1024, .f32⟩
  | 98 => ⟨S8x512x1024, .f32⟩
  | 99 => ⟨S_, .f32⟩
  | 100 => ⟨S8x512x1024, .f32⟩
  | 101 => ⟨S8x512x1024, .f32⟩
  | 102 => ⟨S8x512x1024, .f32⟩
  | 103 => ⟨S8x512x1024, .f32⟩
  | 104 => ⟨S_, .f32⟩
  | 105 => ⟨S8x512x1024, .f32⟩
  | 106 => ⟨S8x512x1024, .f32⟩
  | 107 => ⟨S_, .f32⟩
  | 108 => ⟨S_, .f32⟩
  | 109 => ⟨S_, .f32⟩
  | 110 => ⟨S8x512x1024, .f32⟩
  | 111 => ⟨S8x512x1024, .f32⟩
  | 112 => ⟨S_, .f32⟩
  | 113 => ⟨S8x512x1024, .f32⟩
  | 114 => ⟨S8x512x1024, .f32⟩
  | 115 => ⟨S_, .f32⟩
  | 116 => ⟨S8x512x1024, .f32⟩
  | 117 => ⟨S8x512x1024, .f32⟩
  | 118 => ⟨S8x512x1024, .i32⟩
  | 119 => ⟨S8x512x1024, .f32⟩
  | 120 => ⟨S_, .f32⟩
  | 121 => ⟨S8x512x1024, .f32⟩
  | 122 => ⟨S8x512x1024, .f32⟩
  | 123 => ⟨S_, .f32⟩
  | 124 => ⟨S8x512x1024, .f32⟩
  | 125 => ⟨S8x512x1024, .f32⟩
  | 126 => ⟨S8x512x1024, .f32⟩
  | 127 => ⟨S8x512x1024, .f32⟩
  | _ => ⟨S4096x4096, .bf16⟩

abbrev hbmTy0_1 (i : Nat) : BufTy := match i % 128 with
  | 0 => ⟨S_, .f32⟩
  | 1 => ⟨S8x512x1024, .f32⟩
  | 2 => ⟨S8x512x1024, .f32⟩
  | 3 => ⟨S_, .f32⟩
  | 4 => ⟨S_, .f32⟩
  | 5 => ⟨S_, .f32⟩
  | 6 => ⟨S8x512x1024, .f32⟩
  | 7 => ⟨S8x512x1024, .f32⟩
  | 8 => ⟨S_, .f32⟩
  | 9 => ⟨S8x512x1024, .f32⟩
  | 10 => ⟨S8x512x1024, .f32⟩
  | 11 => ⟨S_, .f32⟩
  | 12 => ⟨S8x512x1024, .f32⟩
  | 13 => ⟨S8x512x1024, .f32⟩
  | 14 => ⟨S8x512x1024, .i32⟩
  | 15 => ⟨S8x512x1024, .f32⟩
  | 16 => ⟨S_, .f32⟩
  | 17 => ⟨S8x512x1024, .f32⟩
  | 18 => ⟨S8x512x1024, .f32⟩
  | 19 => ⟨S_, .f32⟩
  | 20 => ⟨S8x512x1024, .f32⟩
  | 21 => ⟨S8x512x1024, .f32⟩
  | 22 => ⟨S8x512x1024, .f32⟩
  | 23 => ⟨S8x512x1024, .f32⟩
  | 24 => ⟨S_, .f32⟩
  | 25 => ⟨S8x512x1024, .f32⟩
  | 26 => ⟨S8x512x1024, .f32⟩
  | 27 => ⟨S_, .f32⟩
  | 28 => ⟨S_, .f32⟩
  | 29 => ⟨S_, .f32⟩
  | 30 => ⟨S8x512x1024, .f32⟩
  | 31 => ⟨S8x512x1024, .f32⟩
  | 32 => ⟨S_, .f32⟩
  | 33 => ⟨S8x512x1024, .f32⟩
  | 34 => ⟨S8x512x1024, .f32⟩
  | 35 => ⟨S_, .f32⟩
  | 36 => ⟨S8x512x1024, .f32⟩
  | 37 => ⟨S8x512x1024, .f32⟩
  | 38 => ⟨S8x512x1024, .i32⟩
  | 39 => ⟨S8x512x1024, .f32⟩
  | 40 => ⟨S_, .f32⟩
  | 41 => ⟨S8x512x1024, .f32⟩
  | 42 => ⟨S8x512x1024, .f32⟩
  | 43 => ⟨S_, .f32⟩
  | 44 => ⟨S8x512x1024, .f32⟩
  | 45 => ⟨S8x512x1024, .f32⟩
  | 46 => ⟨S8x512x1024, .f32⟩
  | 47 => ⟨S8x512x1024, .f32⟩
  | 48 => ⟨S4096x1024, .f32⟩
  | 49 => ⟨S8x512x1024, .f32⟩
  | 50 => ⟨S_, .f32⟩
  | 51 => ⟨S8x512x1024, .f32⟩
  | 52 => ⟨S8x512x1024, .f32⟩
  | 53 => ⟨S_, .f32⟩
  | 54 => ⟨S_, .f32⟩
  | 55 => ⟨S_, .f32⟩
  | 56 => ⟨S8x512x1024, .f32⟩
  | 57 => ⟨S8x512x1024, .f32⟩
  | 58 => ⟨S_, .f32⟩
  | 59 => ⟨S8x512x1024, .f32⟩
  | 60 => ⟨S8x512x1024, .f32⟩
  | 61 => ⟨S_, .f32⟩
  | 62 => ⟨S8x512x1024, .f32⟩
  | 63 => ⟨S8x512x1024, .f32⟩
  | 64 => ⟨S8x512x1024, .i32⟩
  | 65 => ⟨S8x512x1024, .f32⟩
  | 66 => ⟨S_, .f32⟩
  | 67 => ⟨S8x512x1024, .f32⟩
  | 68 => ⟨S8x512x1024, .f32⟩
  | 69 => ⟨S_, .f32⟩
  | 70 => ⟨S8x512x1024, .f32⟩
  | 71 => ⟨S8x512x1024, .f32⟩
  | 72 => ⟨S8x512x1024, .f32⟩
  | 73 => ⟨S8x512x1024, .f32⟩
  | 74 => ⟨S_, .f32⟩
  | 75 => ⟨S8x512x1024, .f32⟩
  | 76 => ⟨S8x512x1024, .f32⟩
  | 77 => ⟨S_, .f32⟩
  | 78 => ⟨S_, .f32⟩
  | 79 => ⟨S_, .f32⟩
  | 80 => ⟨S8x512x1024, .f32⟩
  | 81 => ⟨S8x512x1024, .f32⟩
  | 82 => ⟨S_, .f32⟩
  | 83 => ⟨S8x512x1024, .f32⟩
  | 84 => ⟨S8x512x1024, .f32⟩
  | 85 => ⟨S_, .f32⟩
  | 86 => ⟨S8x512x1024, .f32⟩
  | 87 => ⟨S8x512x1024, .f32⟩
  | 88 => ⟨S8x512x1024, .i32⟩
  | 89 => ⟨S8x512x1024, .f32⟩
  | 90 => ⟨S_, .f32⟩
  | 91 => ⟨S8x512x1024, .f32⟩
  | 92 => ⟨S8x512x1024, .f32⟩
  | 93 => ⟨S_, .f32⟩
  | 94 => ⟨S8x512x1024, .f32⟩
  | 95 => ⟨S8x512x1024, .f32⟩
  | 96 => ⟨S8x512x1024, .f32⟩
  | 97 => ⟨S8x512x1024, .f32⟩
  | 98 => ⟨S_, .f32⟩
  | 99 => ⟨S8x512x1024, .f32⟩
  | 100 => ⟨S8x512x1024, .f32⟩
  | 101 => ⟨S_, .f32⟩
  | 102 => ⟨S_, .f32⟩
  | 103 => ⟨S_, .f32⟩
  | 104 => ⟨S8x512x1024, .f32⟩
  | 105 => ⟨S8x512x1024, .f32⟩
  | 106 => ⟨S_, .f32⟩
  | 107 => ⟨S8x512x1024, .f32⟩
  | 108 => ⟨S8x512x1024, .f32⟩
  | 109 => ⟨S_, .f32⟩
  | 110 => ⟨S8x512x1024, .f32⟩
  | 111 => ⟨S8x512x1024, .f32⟩
  | 112 => ⟨S8x512x1024, .i32⟩
  | 113 => ⟨S8x512x1024, .f32⟩
  | 114 => ⟨S_, .f32⟩
  | 115 => ⟨S8x512x1024, .f32⟩
  | 116 => ⟨S8x512x1024, .f32⟩
  | 117 => ⟨S_, .f32⟩
  | 118 => ⟨S8x512x1024, .f32⟩
  | 119 => ⟨S8x512x1024, .f32⟩
  | 120 => ⟨S8x512x1024, .f32⟩
  | 121 => ⟨S8x512x1024, .f32⟩
  | 122 => ⟨S_, .f32⟩
  | 123 => ⟨S8x512x1024, .f32⟩
  | 124 => ⟨S8x512x1024, .f32⟩
  | 125 => ⟨S_, .f32⟩
  | 126 => ⟨S_, .f32⟩
  | 127 => ⟨S_, .f32⟩
  | _ => ⟨S4096x4096, .bf16⟩

abbrev hbmTy0_2 (i : Nat) : BufTy := match i % 128 with
  | 0 => ⟨S8x512x1024, .f32⟩
  | 1 => ⟨S8x512x1024, .f32⟩
  | 2 => ⟨S_, .f32⟩
  | 3 => ⟨S8x512x1024, .f32⟩
  | 4 => ⟨S8x512x1024, .f32⟩
  | 5 => ⟨S_, .f32⟩
  | 6 => ⟨S8x512x1024, .f32⟩
  | 7 => ⟨S8x512x1024, .f32⟩
  | 8 => ⟨S8x512x1024, .i32⟩
  | 9 => ⟨S8x512x1024, .f32⟩
  | 10 => ⟨S_, .f32⟩
  | 11 => ⟨S8x512x1024, .f32⟩
  | 12 => ⟨S8x512x1024, .f32⟩
  | 13 => ⟨S_, .f32⟩
  | 14 => ⟨S8x512x1024, .f32⟩
  | 15 => ⟨S8x512x1024, .f32⟩
  | 16 => ⟨S8x512x1024, .f32⟩
  | 17 => ⟨S8x512x1024, .f32⟩
  | 18 => ⟨S_, .f32⟩
  | 19 => ⟨S8x512x1024, .f32⟩
  | 20 => ⟨S8x512x1024, .f32⟩
  | 21 => ⟨S_, .f32⟩
  | 22 => ⟨S_, .f32⟩
  | 23 => ⟨S_, .f32⟩
  | 24 => ⟨S8x512x1024, .f32⟩
  | 25 => ⟨S8x512x1024, .f32⟩
  | 26 => ⟨S_, .f32⟩
  | 27 => ⟨S8x512x1024, .f32⟩
  | 28 => ⟨S8x512x1024, .f32⟩
  | 29 => ⟨S_, .f32⟩
  | 30 => ⟨S8x512x1024, .f32⟩
  | 31 => ⟨S8x512x1024, .f32⟩
  | 32 => ⟨S8x512x1024, .i32⟩
  | 33 => ⟨S8x512x1024, .f32⟩
  | 34 => ⟨S_, .f32⟩
  | 35 => ⟨S8x512x1024, .f32⟩
  | 36 => ⟨S8x512x1024, .f32⟩
  | 37 => ⟨S_, .f32⟩
  | 38 => ⟨S8x512x1024, .f32⟩
  | 39 => ⟨S8x512x1024, .f32⟩
  | 40 => ⟨S8x512x1024, .f32⟩
  | 41 => ⟨S8x512x1024, .f32⟩
  | 42 => ⟨S_, .f32⟩
  | 43 => ⟨S8x512x1024, .f32⟩
  | 44 => ⟨S8x512x1024, .f32⟩
  | 45 => ⟨S_, .f32⟩
  | 46 => ⟨S_, .f32⟩
  | 47 => ⟨S_, .f32⟩
  | 48 => ⟨S8x512x1024, .f32⟩
  | 49 => ⟨S8x512x1024, .f32⟩
  | 50 => ⟨S_, .f32⟩
  | 51 => ⟨S8x512x1024, .f32⟩
  | 52 => ⟨S8x512x1024, .f32⟩
  | 53 => ⟨S_, .f32⟩
  | 54 => ⟨S8x512x1024, .f32⟩
  | 55 => ⟨S8x512x1024, .f32⟩
  | 56 => ⟨S8x512x1024, .i32⟩
  | 57 => ⟨S8x512x1024, .f32⟩
  | 58 => ⟨S_, .f32⟩
  | 59 => ⟨S8x512x1024, .f32⟩
  | 60 => ⟨S8x512x1024, .f32⟩
  | 61 => ⟨S_, .f32⟩
  | 62 => ⟨S8x512x1024, .f32⟩
  | 63 => ⟨S8x512x1024, .f32⟩
  | 64 => ⟨S8x512x1024, .f32⟩
  | 65 => ⟨S8x512x1024, .f32⟩
  | 66 => ⟨S_, .f32⟩
  | 67 => ⟨S8x512x1024, .f32⟩
  | 68 => ⟨S8x512x1024, .f32⟩
  | 69 => ⟨S_, .f32⟩
  | 70 => ⟨S_, .f32⟩
  | 71 => ⟨S_, .f32⟩
  | 72 => ⟨S8x512x1024, .f32⟩
  | 73 => ⟨S8x512x1024, .f32⟩
  | 74 => ⟨S_, .f32⟩
  | 75 => ⟨S8x512x1024, .f32⟩
  | 76 => ⟨S8x512x1024, .f32⟩
  | 77 => ⟨S_, .f32⟩
  | 78 => ⟨S8x512x1024, .f32⟩
  | 79 => ⟨S8x512x1024, .f32⟩
  | 80 => ⟨S8x512x1024, .i32⟩
  | 81 => ⟨S8x512x1024, .f32⟩
  | 82 => ⟨S_, .f32⟩
  | 83 => ⟨S8x512x1024, .f32⟩
  | 84 => ⟨S8x512x1024, .f32⟩
  | 85 => ⟨S_, .f32⟩
  | 86 => ⟨S8x512x1024, .f32⟩
  | 87 => ⟨S8x512x1024, .f32⟩
  | 88 => ⟨S8x512x1024, .f32⟩
  | 89 => ⟨S8x512x1024, .f32⟩
  | 90 => ⟨S4096x1024, .f32⟩
  | 91 => ⟨S4096x2048, .f32⟩
  | 92 => ⟨S4096x2048, .f32⟩
  | 93 => ⟨S_, .f32⟩
  | 94 => ⟨S_, .f32⟩
  | 95 => ⟨S_, .f32⟩
  | 96 => ⟨S_, .f32⟩
  | 97 => ⟨S4096x2048, .f32⟩
  | 98 => ⟨S4096x2048, .f32⟩
  | 99 => ⟨S_, .f32⟩
  | 100 => ⟨S_, .f32⟩
  | 101 => ⟨S_, .f32⟩
  | 102 => ⟨S4096x2048, .f32⟩
  | 103 => ⟨S4096x2048, .f32⟩
  | 104 => ⟨S_, .f32⟩
  | 105 => ⟨S4096x2048, .f32⟩
  | 106 => ⟨S4096x2048, .f32⟩
  | 107 => ⟨S4096x2048, .f32⟩
  | 108 => ⟨S4096x2048, .f32⟩
  | _ => ⟨S4096x4096, .bf16⟩

abbrev hbmTy (i : Nat) : BufTy := match i / 128 with
  | 0 => hbmTy0_0 i
  | 1 => hbmTy0_1 i
  | 2 => hbmTy0_2 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_cst_13 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v34 : Ref sig .tc := ⟨.hbm, 66, rfl⟩
abbrev main_cst_14 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_15 : Ref sig .tc := ⟨.hbm, 72, rfl⟩
abbrev main_v39 : Ref sig .tc := ⟨.hbm, 73, rfl⟩
abbrev main_v40 : Ref sig .tc := ⟨.hbm, 74, rfl⟩
abbrev main_cst_16 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_17 : Ref sig .tc := ⟨.hbm, 80, rfl⟩
abbrev main_v45 : Ref sig .tc := ⟨.hbm, 81, rfl⟩
abbrev main_v46 : Ref sig .tc := ⟨.hbm, 82, rfl⟩
abbrev main_cst_18 : Ref sig .tc := ⟨.hbm, 83, rfl⟩
abbrev main_cst_19 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v47 : Ref sig .tc := ⟨.hbm, 90, rfl⟩
abbrev main_cst_20 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_21 : Ref sig .tc := ⟨.hbm, 96, rfl⟩
abbrev main_v52 : Ref sig .tc := ⟨.hbm, 97, rfl⟩
abbrev main_v53 : Ref sig .tc := ⟨.hbm, 98, rfl⟩
abbrev main_cst_22 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_23 : Ref sig .tc := ⟨.hbm, 104, rfl⟩
abbrev main_v58 : Ref sig .tc := ⟨.hbm, 105, rfl⟩
abbrev main_v59 : Ref sig .tc := ⟨.hbm, 106, rfl⟩
abbrev main_cst_24 : Ref sig .tc := ⟨.hbm, 107, rfl⟩
abbrev main_cst_25 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v60 : Ref sig .tc := ⟨.hbm, 114, rfl⟩
abbrev main_cst_26 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_27 : Ref sig .tc := ⟨.hbm, 120, rfl⟩
abbrev main_v65 : Ref sig .tc := ⟨.hbm, 121, rfl⟩
abbrev main_v66 : Ref sig .tc := ⟨.hbm, 122, rfl⟩
abbrev main_cst_28 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_29 : Ref sig .tc := ⟨.hbm, 128, rfl⟩
abbrev main_v71 : Ref sig .tc := ⟨.hbm, 129, rfl⟩
abbrev main_v72 : Ref sig .tc := ⟨.hbm, 130, rfl⟩
abbrev main_cst_30 : Ref sig .tc := ⟨.hbm, 131, rfl⟩
abbrev main_cst_31 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v73 : Ref sig .tc := ⟨.hbm, 138, rfl⟩
abbrev main_cst_32 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_33 : Ref sig .tc := ⟨.hbm, 144, rfl⟩
abbrev main_v78 : Ref sig .tc := ⟨.hbm, 145, rfl⟩
abbrev main_v79 : Ref sig .tc := ⟨.hbm, 146, rfl⟩
abbrev main_cst_34 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_35 : Ref sig .tc := ⟨.hbm, 152, rfl⟩
abbrev main_v84 : Ref sig .tc := ⟨.hbm, 153, rfl⟩
abbrev main_v85 : Ref sig .tc := ⟨.hbm, 154, rfl⟩
abbrev main_cst_36 : Ref sig .tc := ⟨.hbm, 155, rfl⟩
abbrev main_cst_37 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_v86 : Ref sig .tc := ⟨.hbm, 162, rfl⟩
abbrev main_cst_38 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_cst_39 : Ref sig .tc := ⟨.hbm, 168, rfl⟩
abbrev main_v91 : Ref sig .tc := ⟨.hbm, 169, rfl⟩
abbrev main_v92 : Ref sig .tc := ⟨.hbm, 170, rfl⟩
abbrev main_cst_40 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_cst_41 : Ref sig .tc := ⟨.hbm, 178, rfl⟩
abbrev main_v99 : Ref sig .tc := ⟨.hbm, 179, rfl⟩
abbrev main_v100 : Ref sig .tc := ⟨.hbm, 180, rfl⟩
abbrev main_cst_42 : Ref sig .tc := ⟨.hbm, 181, rfl⟩
abbrev main_cst_43 : Ref sig .tc := ⟨.hbm, 182, rfl⟩
abbrev main_call7_v0 : Ref sig .tc := ⟨.hbm, 183, rfl⟩
abbrev main_call7_v1 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_v101 : Ref sig .tc := ⟨.hbm, 188, rfl⟩
abbrev main_cst_44 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_45 : Ref sig .tc := ⟨.hbm, 194, rfl⟩
abbrev main_v106 : Ref sig .tc := ⟨.hbm, 195, rfl⟩
abbrev main_v107 : Ref sig .tc := ⟨.hbm, 196, rfl⟩
abbrev main_cst_46 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_47 : Ref sig .tc := ⟨.hbm, 202, rfl⟩
abbrev main_v112 : Ref sig .tc := ⟨.hbm, 203, rfl⟩
abbrev main_v113 : Ref sig .tc := ⟨.hbm, 204, rfl⟩
abbrev main_cst_48 : Ref sig .tc := ⟨.hbm, 205, rfl⟩
abbrev main_cst_49 : Ref sig .tc := ⟨.hbm, 206, rfl⟩
abbrev main_call8_v0 : Ref sig .tc := ⟨.hbm, 207, rfl⟩
abbrev main_call8_v1 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_v114 : Ref sig .tc := ⟨.hbm, 212, rfl⟩
abbrev main_cst_50 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_cst_51 : Ref sig .tc := ⟨.hbm, 218, rfl⟩
abbrev main_v119 : Ref sig .tc := ⟨.hbm, 219, rfl⟩
abbrev main_v120 : Ref sig .tc := ⟨.hbm, 220, rfl⟩
abbrev main_cst_52 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_cst_53 : Ref sig .tc := ⟨.hbm, 226, rfl⟩
abbrev main_v125 : Ref sig .tc := ⟨.hbm, 227, rfl⟩
abbrev main_v126 : Ref sig .tc := ⟨.hbm, 228, rfl⟩
abbrev main_cst_54 : Ref sig .tc := ⟨.hbm, 229, rfl⟩
abbrev main_cst_55 : Ref sig .tc := ⟨.hbm, 230, rfl⟩
abbrev main_call9_v0 : Ref sig .tc := ⟨.hbm, 231, rfl⟩
abbrev main_call9_v1 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_v127 : Ref sig .tc := ⟨.hbm, 236, rfl⟩
abbrev main_cst_56 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_cst_57 : Ref sig .tc := ⟨.hbm, 242, rfl⟩
abbrev main_v132 : Ref sig .tc := ⟨.hbm, 243, rfl⟩
abbrev main_v133 : Ref sig .tc := ⟨.hbm, 244, rfl⟩
abbrev main_cst_58 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_cst_59 : Ref sig .tc := ⟨.hbm, 250, rfl⟩
abbrev main_v138 : Ref sig .tc := ⟨.hbm, 251, rfl⟩
abbrev main_v139 : Ref sig .tc := ⟨.hbm, 252, rfl⟩
abbrev main_cst_60 : Ref sig .tc := ⟨.hbm, 253, rfl⟩
abbrev main_cst_61 : Ref sig .tc := ⟨.hbm, 254, rfl⟩
abbrev main_call10_v0 : Ref sig .tc := ⟨.hbm, 255, rfl⟩
abbrev main_call10_v1 : Ref sig .tc := ⟨.hbm, 256, rfl⟩
abbrev main_call10_v2 : Ref sig .tc := ⟨.hbm, 257, rfl⟩
abbrev main_call10_v3 : Ref sig .tc := ⟨.hbm, 258, rfl⟩
abbrev main_call10_v4 : Ref sig .tc := ⟨.hbm, 259, rfl⟩
abbrev main_v140 : Ref sig .tc := ⟨.hbm, 260, rfl⟩
abbrev main_cst_62 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_cst_63 : Ref sig .tc := ⟨.hbm, 266, rfl⟩
abbrev main_v145 : Ref sig .tc := ⟨.hbm, 267, rfl⟩
abbrev main_v146 : Ref sig .tc := ⟨.hbm, 268, rfl⟩
abbrev main_cst_64 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_cst_65 : Ref sig .tc := ⟨.hbm, 274, rfl⟩
abbrev main_v151 : Ref sig .tc := ⟨.hbm, 275, rfl⟩
abbrev main_v152 : Ref sig .tc := ⟨.hbm, 276, rfl⟩
abbrev main_cst_66 : Ref sig .tc := ⟨.hbm, 277, rfl⟩
abbrev main_cst_67 : Ref sig .tc := ⟨.hbm, 278, rfl⟩
abbrev main_call11_v0 : Ref sig .tc := ⟨.hbm, 279, rfl⟩
abbrev main_call11_v1 : Ref sig .tc := ⟨.hbm, 280, rfl⟩
abbrev main_call11_v2 : Ref sig .tc := ⟨.hbm, 281, rfl⟩
abbrev main_call11_v3 : Ref sig .tc := ⟨.hbm, 282, rfl⟩
abbrev main_call11_v4 : Ref sig .tc := ⟨.hbm, 283, rfl⟩
abbrev main_v153 : Ref sig .tc := ⟨.hbm, 284, rfl⟩
abbrev main_cst_68 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_cst_69 : Ref sig .tc := ⟨.hbm, 290, rfl⟩
abbrev main_v158 : Ref sig .tc := ⟨.hbm, 291, rfl⟩
abbrev main_v159 : Ref sig .tc := ⟨.hbm, 292, rfl⟩
abbrev main_cst_70 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_71 : Ref sig .tc := ⟨.hbm, 298, rfl⟩
abbrev main_v164 : Ref sig .tc := ⟨.hbm, 299, rfl⟩
abbrev main_v165 : Ref sig .tc := ⟨.hbm, 300, rfl⟩
abbrev main_cst_72 : Ref sig .tc := ⟨.hbm, 301, rfl⟩
abbrev main_cst_73 : Ref sig .tc := ⟨.hbm, 302, rfl⟩
abbrev main_call12_v0 : Ref sig .tc := ⟨.hbm, 303, rfl⟩
abbrev main_call12_v1 : Ref sig .tc := ⟨.hbm, 304, rfl⟩
abbrev main_call12_v2 : Ref sig .tc := ⟨.hbm, 305, rfl⟩
abbrev main_call12_v3 : Ref sig .tc := ⟨.hbm, 306, rfl⟩
abbrev main_call12_v4 : Ref sig .tc := ⟨.hbm, 307, rfl⟩
abbrev main_v166 : Ref sig .tc := ⟨.hbm, 308, rfl⟩
abbrev main_cst_74 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_cst_75 : Ref sig .tc := ⟨.hbm, 314, rfl⟩
abbrev main_v171 : Ref sig .tc := ⟨.hbm, 315, rfl⟩
abbrev main_v172 : Ref sig .tc := ⟨.hbm, 316, rfl⟩
abbrev main_cst_76 : Ref sig .tc := ⟨.hbm, 317, rfl⟩
abbrev main_v173 : Ref sig .tc := ⟨.hbm, 318, rfl⟩
abbrev main_v174 : Ref sig .tc := ⟨.hbm, 319, rfl⟩
abbrev main_v175 : Ref sig .tc := ⟨.hbm, 320, rfl⟩
abbrev main_v176 : Ref sig .tc := ⟨.hbm, 321, rfl⟩
abbrev main_cst_77 : Ref sig .tc := ⟨.hbm, 322, rfl⟩
abbrev main_v177 : Ref sig .tc := ⟨.hbm, 323, rfl⟩
abbrev main_v178 : Ref sig .tc := ⟨.hbm, 324, rfl⟩
abbrev main_cst_78 : Ref sig .tc := ⟨.hbm, 325, rfl⟩
abbrev main_cst_79 : Ref sig .tc := ⟨.hbm, 326, rfl⟩
abbrev main_call13_v0 : Ref sig .tc := ⟨.hbm, 327, rfl⟩
abbrev main_call13_v1 : Ref sig .tc := ⟨.hbm, 328, rfl⟩
abbrev main_call13_v2 : Ref sig .tc := ⟨.hbm, 329, rfl⟩
abbrev main_call13_v3 : Ref sig .tc := ⟨.hbm, 330, rfl⟩
abbrev main_call13_v4 : Ref sig .tc := ⟨.hbm, 331, rfl⟩
abbrev main_v179 : Ref sig .tc := ⟨.hbm, 332, rfl⟩
abbrev main_cst_80 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_81 : Ref sig .tc := ⟨.hbm, 338, rfl⟩
abbrev main_v184 : Ref sig .tc := ⟨.hbm, 339, rfl⟩
abbrev main_v185 : Ref sig .tc := ⟨.hbm, 340, rfl⟩
abbrev main_cst_82 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_cst_83 : Ref sig .tc := ⟨.hbm, 349, rfl⟩
abbrev main_v193 : Ref sig .tc := ⟨.hbm, 350, rfl⟩
abbrev main_cst_84 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_cst_85 : Ref sig .tc := ⟨.hbm, 355, rfl⟩
abbrev main_cst_86 : Ref sig .tc := ⟨.hbm, 356, rfl⟩
abbrev main_call14_v0 : Ref sig .tc := ⟨.hbm, 357, rfl⟩
abbrev main_call14_v1 : Ref sig .tc := ⟨.hbm, 358, rfl⟩
abbrev main_call14_v2 : Ref sig .tc := ⟨.hbm, 359, rfl⟩
abbrev main_call14_v3 : Ref sig .tc := ⟨.hbm, 360, rfl⟩
abbrev main_call14_v4 : Ref sig .tc := ⟨.hbm, 361, rfl⟩
abbrev main_v197 : Ref sig .tc := ⟨.hbm, 362, rfl⟩
abbrev main_v198 : Ref sig .tc := ⟨.hbm, 363, rfl⟩
abbrev main_v199 : Ref sig .tc := ⟨.hbm, 364, rfl⟩

abbrev nD : Nat := 1
abbrev τ : Topo := Topo.v7x

variable {F : FTy → Type} [FloatOps F]
-- ==== Proof.KernelIdeal.Prog.lean ====
/-
  The kernel's body written as a short structured program: the barrier with the two ring neighbours, the two
  input copies, four opening sends a direction, six forwarding hops, the closing hop, the exchange of the
  largest magnitudes, the sixteen result tiles and the waits for the copies sent. The printed body unfolds to it.
-/
module

public import proofs.«01_k».proof.Proof.Gen.KernelIdeal.Skeleton
public import proofs.«01_k».proof.Proof.Gen.KernelIdeal.Launch

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F] [Named F]

/-- A program of the kernel's. -/
abbrev P (α : Type) := Prog (TpuEff nD τ sig (Elt F) Λ₀ .tc) α

/-- The weight the kernel undoes the transfer scale with. -/
abbrev wireUnit : F .f32 := Named.named κ "s" 0x39800801#32

/-! ## The buffers, their pieces and the semaphores -/

/-- The two input blocks and the result block, as the pipeline stages them. -/
abbrev xR : Memref sig .tc .vmem S4096x512 .bf16 := Memref.whole cc0_stg0_0
abbrev wR : Memref sig .tc .vmem S512x2048 .bf16 := Memref.whole cc0_stg1_0
abbrev oR : Memref sig .tc .vmem S512x2048 .f32 := Memref.whole cc0_stg2_0
/-- The kernel's own copies of the two inputs. -/
abbrev xB : Memref sig .tc .vmem S4096x512 .bf16 := Memref.whole cc0_scratch0
abbrev wB : Memref sig .tc .vmem S512x2048 .bf16 := Memref.whole cc0_scratch1
/-- The largest magnitudes, one slot a device. -/
abbrev aB : Memref sig .tc .vmem S8x8x128 .f32 := Memref.whole cc0_scratch4
/-- The transfer buffers: `true` goes round by the next device, `false` by the previous one. -/
def comm : Bool → Memref sig .tc .vmem S8x512x512 .i32
  | true => Memref.whole cc0_scratch2
  | false => Memref.whole cc0_scratch3
def sendS : Bool → DmaSems sig S7x4
  | true => cc0_scratch5
  | false => cc0_scratch7
def recvS : Bool → DmaSems sig S7x4
  | true => cc0_scratch6
  | false => cc0_scratch8

theorem piece_inb (j : Fin 8) (s : Fin 4) : ∀ a, (![j.val, 128 * s.val, 0] : Fin 3 → Nat) a + S1x128x512.size a ≤ S8x512x512.size a := by
  revert j s; decide
/-- Rows `128 s …` of slot `j` of a transfer buffer. -/
abbrev pieceRect (j : Fin 8) (s : Fin 4) : Rect S8x512x512 := Rect.unit (s := S8x512x512) ![j.val, 128 * s.val, 0] S1x128x512.size (piece_inb j s)
abbrev piece (d : Bool) (j : Fin 8) (s : Fin 4) : Memref sig .tc .vmem S128x512 .i32 :=
  ((comm d).slice (pieceRect j s) (fun _ => rfl)).squeeze S128x512 squeezes_S1x128x512_S128x512

theorem cell_inb (h : Fin 7) (s : Fin 4) : ∀ a, (![h.val, s.val] : Fin 2 → Nat) a + S1x1.size a ≤ S7x4.size a := by
  revert h s; decide
/-- One semaphore of an array of `7 × 4`. -/
abbrev semOf (S : DmaSems sig S7x4) (h : Fin 7) (s : Fin 4) : DmaSem sig :=
  ((S.slice (Rect.unit (s := S7x4) ![h.val, s.val] S1x1.size (cell_inb h s))).squeeze S_ squeezes_S1x1_S_).sem
theorem ax_inb (o : Fin 8) : ∀ a, (![o.val] : Fin 1 → Nat) a + S1.size a ≤ S8.size a := by
  revert o; decide
/-- One semaphore of an array of eight. -/
abbrev axOf (S : DmaSems sig S8) (o : Fin 8) : DmaSem sig :=
  ((S.slice (Rect.unit (s := S8) ![o.val] S1.size (ax_inb o))).squeeze S_ squeezes_S1_S_).sem

/-- The slot hop `h` sends from. -/
def srcSlot (h : Fin 7) : Fin 8 := ⟨(h.val + 7) % 8, Nat.mod_lt _ (by decide)⟩
/-- The slot hop `h` lands in. -/
def dstSlot (h : Fin 7) : Fin 8 := ⟨h.val, by omega⟩

/-- The neighbour a direction sends to. -/
def toDev (c : Dev nD) : Bool → Dev nD
  | true => ⟨k0_dev3 c, k0_dev3_lt c⟩
  | false => ⟨k0_dev4 c, k0_dev4_lt c⟩

/-! ## The values -/

/-- A tile of the product. -/
def mm (a : Vec F S128x512 .bf16) (b : Vec F S512x512 .bf16) : FVec F S128x512 .f32 :=
  matmul dot_S128x512_S512x512_S128x512_1_0_0_1_n_n none a b (constant S128x512 .f32 0x00000000#32)
/-- A tile as sixteen-bit words. -/
def enc (v : FVec F S128x512 .f32) : IVec S128x512 32 :=
  fptosi 32 (addf (minimumf (broadcast S128x512 (Scalar.ofBits .f32 0x46FFF000#32)) (maximumf (broadcast S128x512 (Scalar.ofBits .f32 0xC6FFF000#32))
    (mulf v (broadcast S128x512 (Scalar.ofBits .f32 0x457FF000#32))))) (broadcast S128x512 (Scalar.ofBits .f32 0x47000080#32)))
/-- Two tiles in one word each. -/
def pack (u v : FVec F S128x512 .f32) : IVec S128x512 32 := ori (shli (enc v) (broadcast S128x512 16#32)) (enc u)
def packS (u v : FVec F S128x512 .f32) : IVec S1x128x512 32 := shapeCast S1x128x512 (pack u v) shapeCasts_S128x512_S1x128x512
/-- Words back to a tile. -/
def dec (w : IVec S128x512 32) : FVec F S128x512 .f32 :=
  mulf (subf (sitofp .f32 w) (broadcast S128x512 (Scalar.ofBits .f32 0x47000000#32))) (broadcast S128x512 wireUnit)
def lo (w : IVec S128x512 32) : FVec F S128x512 .f32 := dec (andi w (broadcast S128x512 65535#32))
def hi (w : IVec S128x512 32) : FVec F S128x512 .f32 := dec (andi (shrsi w (broadcast S128x512 16#32)) (broadcast S128x512 65535#32))
def flat (w : Vec F S1x128x512 .i32) : IVec S128x512 32 := shapeCast S128x512 w shapeCasts_S1x128x512_S128x512
/-- What arrived, added to this device's tile. -/
def accLo (w : IVec S128x512 32) (a : Vec F S128x512 .bf16) (b : Vec F S512x512 .bf16) : FVec F S128x512 .f32 := addf (lo w) (mm a b)
def accHi (w : IVec S128x512 32) (a : Vec F S128x512 .bf16) (b : Vec F S512x512 .bf16) : FVec F S128x512 .f32 := addf (hi w) (mm a b)
/-- The largest magnitude of a tile. -/
def tileMax (v : FVec F S128x512 .f32) : F .f32 :=
  extractAt ![0, 0, 0] (shapeCast S1x1x1 (multiReduction .maximumf [1, 2] S1 (shapeCast S1x128x512 (absf v) shapeCasts_S128x512_S1x128x512)
    0xFF800000#32 reduces_S1x128x512_S1 (.inl rfl) rfl) shapeCasts_S1_S1x1x1) inpos_S1x1x1_p0_0_0
/-- The largest magnitude of a device's sixteen tiles. -/
def blockMax (y : Fin 4 → Fin 4 → FVec F S128x512 .f32) : FVec F S1x8x128 .f32 :=
  shapeCast S1x8x128 (broadcast S1x8x128 (extractAt ![0, 0] (shapeCast S1x1 (multiReduction .maximumf [1] S1 (shapeCast S1x16
    (concatenate S16 0 [⟨S1, broadcast S1 (tileMax (y 0 0))⟩, ⟨S1, broadcast S1 (tileMax (y 0 1))⟩, ⟨S1, broadcast S1 (tileMax (y 0 2))⟩, ⟨S1, broadcast S1 (tileMax (y 0 3))⟩,
      ⟨S1, broadcast S1 (tileMax (y 1 0))⟩, ⟨S1, broadcast S1 (tileMax (y 1 1))⟩, ⟨S1, broadcast S1 (tileMax (y 1 2))⟩, ⟨S1, broadcast S1 (tileMax (y 1 3))⟩,
      ⟨S1, broadcast S1 (tileMax (y 2 0))⟩, ⟨S1, broadcast S1 (tileMax (y 2 1))⟩, ⟨S1, broadcast S1 (tileMax (y 2 2))⟩, ⟨S1, broadcast S1 (tileMax (y 2 3))⟩,
      ⟨S1, broadcast S1 (tileMax (y 3 0))⟩, ⟨S1, broadcast S1 (tileMax (y 3 1))⟩, ⟨S1, broadcast S1 (tileMax (y 3 2))⟩, ⟨S1, broadcast S1 (tileMax (y 3 3))⟩]
      concatenates_S1_S1_S1_S1_S1_S1_S1_S1_S1_S1_S1_S1_S1_S1_S1_S1_S16_d0) shapeCasts_S16_S1x16)
    0xFF800000#32 reduces_S1x16_S1 (.inl rfl) rfl) shapeCasts_S1_S1x1) inpos_S1x1_p0_0)) shapeCasts_S1x8x128_S1x8x128
/-- The largest magnitude of all. -/
def allMax (a : Vec F S8x8x128 .f32) : F .f32 :=
  extractAt ![0, 0, 0, 0] (shapeCast S1x1x1x1 (multiReduction .maximumf [1, 2, 3] S1 (shapeCast S1x8x8x128 a shapeCasts_S8x8x128_S1x8x8x128)
    0xFF800000#32 reduces_S1x8x8x128_S1 (.inl rfl) rfl) shapeCasts_S1_S1x1x1x1) inpos_S1x1x1x1_p0_0_0_0
/-- A result tile: quantised by the largest magnitude, and back. -/
def quant (g : F .f32) (v : FVec F S128x512 .f32) : FVec F S128x512 .f32 :=
  mulf (extf .f32 (truncf .fp8e4m3 (minimumf (broadcast S128x512 (Scalar.ofBits .f32 0x43E00000#32)) (maximumf (broadcast S128x512 (Scalar.ofBits .f32 0xC3E00000#32))
    (mulf v (broadcast S128x512 (Scalar.divf (Scalar.ofBits .f32 0x43E00000#32) g))))) bitsLt_fp8e4m3_f32) bitsLt_fp8e4m3_f32)
    (broadcast S128x512 (Scalar.divf g (Scalar.ofBits .f32 0x43E00000#32)))

/-! ## The steps -/

/-- The word of a hop's number and of a tile's first row. -/
abbrev hw (h : Fin 7) : BitVec 32 := BitVec.ofNat 32 h.val
abbrev sw (s : Fin 4) : BitVec 32 := BitVec.ofNat 32 (128 * s.val)

/-- The row tile of the input hop `h + 1` adds, by direction. -/
def offX (c : Dev nD) : Bool → Fin 7 → Fin 4 → Fin 2 → Nat
  | true, h, s => k0_off3 c (hw h) (sw s)
  | false, h, s => k0_off4 c (hw h) (sw s)
/-- The row tile the first send carries. -/
def offX0 (c : Dev nD) : Bool → Fin 4 → Fin 2 → Nat
  | true, s => k0_off1 c (sw s)
  | false, s => k0_off2 c (sw s)
theorem offX_inb (c : Dev nD) (d : Bool) (h : Fin 7) (s : Fin 4) : ∀ a, offX c d h s a + S128x512.size a ≤ S4096x512.size a := by
  cases d
  · exact k0_off4_inb c h s
  · exact k0_off3_inb c h s
theorem offX0_inb (c : Dev nD) (d : Bool) (s : Fin 4) : ∀ a, offX0 c d s a + S128x512.size a ≤ S4096x512.size a := by
  cases d
  · exact k0_off2_inb c s
  · exact k0_off1_inb c s
theorem offW_inb (q : Fin 4) : ∀ a, (![0, 512 * q.val] : Fin 2 → Nat) a + S512x512.size a ≤ S512x2048.size a := by
  revert q; decide
theorem offO_inb (s q : Fin 4) : ∀ a, (![128 * s.val, 512 * q.val] : Fin 2 → Nat) a + S128x512.size a ≤ S512x2048.size a := by
  revert s q; decide

def loadX (c : Dev nD) (d : Bool) (h : Fin 7) (s : Fin 4) : P (F := F) (Vec F S128x512 .bf16) :=
  Prog.lift (.load xB (Rect.unit (s := S4096x512) (offX c d h s) S128x512.size (offX_inb c d h s)).toLoadRect (View.loadsAt_vmem h_S128x512))
def loadX0 (c : Dev nD) (d : Bool) (s : Fin 4) : P (F := F) (Vec F S128x512 .bf16) :=
  Prog.lift (.load xB (Rect.unit (s := S4096x512) (offX0 c d s) S128x512.size (offX0_inb c d s)).toLoadRect (View.loadsAt_vmem h_S128x512))
def loadW (q : Fin 4) : P (F := F) (Vec F S512x512 .bf16) :=
  Prog.lift (.load wB (Rect.unit (s := S512x2048) ![0, 512 * q.val] S512x512.size (offW_inb q)).toLoadRect (View.loadsAt_vmem h_S512x512))
def loadP (d : Bool) (j : Fin 8) (s : Fin 4) : P (F := F) (Vec F S1x128x512 .i32) :=
  Prog.lift (.load (comm d) (pieceRect j s).toLoadRect (View.loadsAt_vmem h_S1x128x512))
def storeP (d : Bool) (j : Fin 8) (s : Fin 4) (v : IVec S1x128x512 32) : P (F := F) PUnit :=
  Prog.lift (.store (comm d) (pieceRect j s) v Finset.univ (View.stores_vmem_bits_univ h_S1x128x512 rfl) (.inl rfl))
/-- The slot is read and overwritten. -/
def putP (d : Bool) (j : Fin 8) (s : Fin 4) (v : IVec S1x128x512 32) : P (F := F) PUnit := do
  let _ ← loadP d j s
  storeP d j s v
/-- Hop `h` of rows `s`: a copy into the neighbour's slot. -/
def send (c : Dev nD) (d : Bool) (h : Fin 7) (s : Fin 4) : P (F := F) PUnit :=
  Prog.lift (.enqueueDma (piece d (srcSlot h) s) (.remote (Dev.tc (toDev c d)) (piece d (dstSlot h) s) (.dma (semOf (sendS d) h s))) (.dma (semOf (recvS d) h s))
    ((View.wordExact_bits rfl).reshape _ _) ((View.wordExact_bits rfl).reshape _ _) ⟨⟨rfl, Or.inl rfl⟩, trivial⟩)
def waitRecv (d : Bool) (h : Fin 7) (s : Fin 4) : P (F := F) PUnit :=
  Prog.lift (.waitDma2 (semOf (recvS d) h s) (piece d (srcSlot h) s) (piece d (dstSlot h) s)
    ((View.wordExact_bits rfl).reshape _ _) ((View.wordExact_bits rfl).reshape _ _))
def waitSend (d : Bool) (h : Fin 7) (s : Fin 4) : P (F := F) PUnit :=
  Prog.lift (.waitDma2 (semOf (sendS d) h s) (piece d (dstSlot h) s) (piece d (srcSlot h) s)
    ((View.wordExact_bits rfl).reshape _ _) ((View.wordExact_bits rfl).reshape _ _))

/-- The barrier semaphore. -/
abbrev barS : Sems sig S_ := SemArray.scalar (sig.barrier 0 rfl)
/-- Meet the two neighbours. -/
def meet (c : Dev nD) : P (F := F) PUnit := do
  semSignalWord (toDev c false) barS.sem 1#32
  semSignalWord (toDev c true) barS.sem 1#32
  semWaitWord barS.sem 2#32

/-- Copy the inputs. -/
def copyIn : P (F := F) PUnit := do
  let x ← Prog.lift (.load xR (Rect.unit (s := S4096x512) ![0, 0] S4096x512.size inb_S4096x512_S4096x512_0_0).toLoadRect (View.loadsAt_vmem h_S4096x512))
  let _ ← Prog.lift (.load xB (Rect.unit (s := S4096x512) ![0, 0] S4096x512.size inb_S4096x512_S4096x512_0_0).toLoadRect (View.loadsAt_vmem h_S4096x512))
  Prog.lift (.store xB (Rect.unit (s := S4096x512) ![0, 0] S4096x512.size inb_S4096x512_S4096x512_0_0) (k0_pay1 x) Finset.univ
    (View.stores_vmem h_S4096x512 ((Memref.isWhole_whole cc0_scratch0).storeExact_slice rfl _ packedbf16_S4096x512_S4096x512_0_0) (fun _ => rfl)) (.inl rfl))
  let w ← Prog.lift (.load wR (Rect.unit (s := S512x2048) ![0, 0] S512x2048.size inb_S512x2048_S512x2048_0_0).toLoadRect (View.loadsAt_vmem h_S512x2048))
  let _ ← Prog.lift (.load wB (Rect.unit (s := S512x2048) ![0, 0] S512x2048.size inb_S512x2048_S512x2048_0_0).toLoadRect (View.loadsAt_vmem h_S512x2048))
  Prog.lift (.store wB (Rect.unit (s := S512x2048) ![0, 0] S512x2048.size inb_S512x2048_S512x2048_0_0) (k0_pay2 w) Finset.univ
    (View.stores_vmem h_S512x2048 ((Memref.isWhole_whole cc0_scratch1).storeExact_slice rfl _ packedbf16_S512x2048_S512x2048_0_0) (fun _ => rfl)) (.inl rfl))

/-- The two column quarters a direction carries. -/
def qA : Bool → Fin 4
  | true => 0
  | false => 2
def qB : Bool → Fin 4
  | true => 1
  | false => 3

/-- One opening send: two fresh tiles, packed into the last slot. -/
def open1 (c : Dev nD) (d : Bool) (s : Fin 4) : P (F := F) PUnit := do
  let x0 ← loadX0 c d s
  let w0 ← loadW (qA d)
  let x1 ← loadX0 c d s
  let w1 ← loadW (qB d)
  putP d 7 s (packS (mm x0 w0) (mm x1 w1))
  send c d 0 s

/-- Two tiles of the product. -/
def tiles (c : Dev nD) (d : Bool) (h : Fin 7) (s : Fin 4) : P (F := F) (FVec F S128x512 .f32 × FVec F S128x512 .f32) := do
  let x0 ← loadX c d h s
  let w0 ← loadW (qA d)
  let x1 ← loadX c d h s
  let w1 ← loadW (qB d)
  pure (mm x0 w0, mm x1 w1)
/-- What arrived on one way, added to this device's tiles. -/
def arrive (d : Bool) (h : Fin 7) (s : Fin 4) (t : FVec F S128x512 .f32 × FVec F S128x512 .f32) : P (F := F) (FVec F S128x512 .f32 × FVec F S128x512 .f32) := do
  let a ← loadP d (dstSlot h) s
  pure (addf (lo (flat a)) t.1, addf (hi (flat a)) t.2)
/-- The arriving half of a hop. -/
def take (c : Dev nD) (h : Fin 7) (s : Fin 4) : P (F := F) (Fin 4 → FVec F S128x512 .f32) := do
  let tr ← tiles c true h s
  let tl ← tiles c false h s
  waitRecv true h s
  waitRecv false h s
  let r ← arrive true h s tr
  let l ← arrive false h s tl
  pure ![r.1, r.2, l.1, l.2]
/-- A whole hop: take what arrived and send it on. -/
def hop (c : Dev nD) (h : Fin 6) (s : Fin 4) : P (F := F) PUnit := do
  let y ← take c h.castSucc s
  putP true (dstSlot h.castSucc) s (packS (y 0) (y 1))
  putP false (dstSlot h.castSucc) s (packS (y 2) (y 3))
  send c true h.succ s
  send c false h.succ s

/-! ## The magnitudes -/

/-- The device `o + 1` places round. -/
def axDev (c : Dev nD) : Fin 7 → Dev nD
  | 0 => ⟨k0_dev59 c, k0_dev59_lt c⟩
  | 1 => ⟨k0_dev60 c, k0_dev60_lt c⟩
  | 2 => ⟨k0_dev61 c, k0_dev61_lt c⟩
  | 3 => ⟨k0_dev62 c, k0_dev62_lt c⟩
  | 4 => ⟨k0_dev63 c, k0_dev63_lt c⟩
  | 5 => ⟨k0_dev64 c, k0_dev64_lt c⟩
  | 6 => ⟨k0_dev65 c, k0_dev65_lt c⟩
abbrev ow (o : Fin 7) : BitVec 32 := BitVec.ofNat 32 (1 + o.val)
abbrev mySlot (c : Dev nD) : Memref sig .tc .vmem S8x128 .f32 :=
  (aB.slice (Rect.unit (s := S8x8x128) (k0_off7 c) S1x8x128.size (k0_off7_inb c)) (fun _ => rfl)).squeeze S8x128 squeezes_S1x8x128_S8x128
abbrev farSlot (c : Dev nD) (o : Fin 7) : Memref sig .tc .vmem S8x128 .f32 :=
  (aB.slice (Rect.unit (s := S8x8x128) (k0_off9 c (ow o)) S1x8x128.size (k0_off9_inb c o)) (fun _ => rfl)).squeeze S8x128 squeezes_S1x8x128_S8x128
abbrev mySem (c : Dev nD) : DmaSem sig :=
  ((cc0_scratch10.slice (Rect.unit (s := S8) (k0_off6 c) S1.size (k0_off6_inb c))).squeeze S_ squeezes_S1_S_).sem
abbrev farSem (c : Dev nD) (o : Fin 7) : DmaSem sig :=
  ((cc0_scratch10.slice (Rect.unit (s := S8) (k0_off8 c (ow o)) S1.size (k0_off8_inb c o))).squeeze S_ squeezes_S1_S_).sem
/-- The send semaphore of offset `o + 1`. -/
abbrev axSendSem (o : Fin 7) : DmaSem sig := axOf cc0_scratch9 o.succ

def axPut (c : Dev nD) (v : FVec F S1x8x128 .f32) : P (F := F) PUnit := do
  let _ ← Prog.lift (.load aB (Rect.unit (s := S8x8x128) (k0_off5 c) S1x8x128.size (k0_off5_inb c)).toLoadRect (View.loadsAt_vmem h_S1x8x128))
  Prog.lift (.store aB (Rect.unit (s := S8x8x128) (k0_off5 c) S1x8x128.size (k0_off5_inb c)) v Finset.univ (View.stores_vmem_bits_univ h_S1x8x128 rfl) (.inl rfl))
def axSend (c : Dev nD) (o : Fin 7) : P (F := F) PUnit :=
  Prog.lift (.enqueueDma (mySlot c) (.remote (Dev.tc (axDev c o)) (mySlot c) (.dma (axSendSem o))) (.dma (mySem c))
    ((View.wordExact_bits rfl).reshape _ _) ((View.wordExact_bits rfl).reshape _ _) ⟨⟨rfl, Or.inl rfl⟩, trivial⟩)
def axWait (c : Dev nD) (o : Fin 7) : P (F := F) PUnit :=
  Prog.lift (.waitDma2 (farSem c o) (farSlot c o) (farSlot c o) ((View.wordExact_bits rfl).reshape _ _) ((View.wordExact_bits rfl).reshape _ _))
def axDone (c : Dev nD) (o : Fin 7) : P (F := F) PUnit :=
  Prog.lift (.waitDma2 (axSendSem o) (mySlot c) (mySlot c) ((View.wordExact_bits rfl).reshape _ _) ((View.wordExact_bits rfl).reshape _ _))
def axLoad : P (F := F) (Vec F S8x8x128 .f32) :=
  Prog.lift (.load aB (Rect.unit (s := S8x8x128) ![0, 0, 0] S8x8x128.size inb_S8x8x128_S8x8x128_0_0_0).toLoadRect (View.loadsAt_vmem h_S8x8x128))
/-- One result tile. -/
def putO (s q : Fin 4) (v : FVec F S128x512 .f32) : P (F := F) PUnit := do
  let _ ← Prog.lift (.load oR (Rect.unit (s := S512x2048) ![128 * s.val, 512 * q.val] S128x512.size (offO_inb s q)).toLoadRect (View.loadsAt_vmem h_S128x512))
  Prog.lift (.store oR (Rect.unit (s := S512x2048) ![128 * s.val, 512 * q.val] S128x512.size (offO_inb s q)) v Finset.univ (View.stores_vmem_bits_univ h_S128x512 rfl) (.inl rfl))

/-! ## The whole -/

/-- Four runs, one after the other. -/
def four (f : Fin 4 → P (F := F) PUnit) : P (F := F) PUnit := do
  f 0
  f 1
  f 2
  f 3
def seven (f : Fin 7 → P (F := F) PUnit) : P (F := F) PUnit := do
  f 0
  f 1
  f 2
  f 3
  f 4
  f 5
  f 6
def hops (c : Dev nD) : P (F := F) PUnit := do
  four (hop c 0)
  four (hop c 1)
  four (hop c 2)
  four (hop c 3)
  four (hop c 4)
  four (hop c 5)
def lastHop (c : Dev nD) : P (F := F) (Fin 4 → Fin 4 → FVec F S128x512 .f32) := do
  let y0 ← take c 6 0
  let y1 ← take c 6 1
  let y2 ← take c 6 2
  let y3 ← take c 6 3
  pure ![y0, y1, y2, y3]
def results (y : Fin 4 → Fin 4 → FVec F S128x512 .f32) (g : F .f32) : P (F := F) PUnit :=
  four fun q => four fun s => putO s q (quant g (y s q))
def drain : P (F := F) PUnit :=
  seven fun h => four fun s => do
    waitSend true h s
    waitSend false h s

def ringBody : P (F := F) PUnit := do
  let c ← Prog.lift .deviceId
  meet c
  copyIn
  four fun s => do
    open1 c true s
    open1 c false s
  hops c
  let y ← lastHop c
  axPut c (blockMax y)
  seven (axSend c)
  seven (axWait c)
  let a ← axLoad
  results y (allMax a)
  seven (axDone c)
  drain

/-- The printed body, on the memory the pipeline calls it with. -/
abbrev printed : P (F := F) PUnit :=
  cc0_body (F := F) xR (Memref.isWhole_whole _) wR (Memref.isWhole_whole _) oR (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10

end Cert.KernelIdeal.Ring
end
-- ==== Proof.KernelIdeal.Common.lean ====
/-
  The protocol: the semaphore cells of a device, what each is paid and by whom, the contents every landing hands
  over, the order of the waits.

  Two rings carry partial sums, `true` to the next device and `false` to the previous one; hop `h` of rows `s` lands
  in slot `h` of the neighbour's transfer buffer. The barrier hands each device its neighbours' slots. A device may
  write its largest magnitude into every other device's table once it holds that slot; the slots of device `p`'s table
  travel with the `true` ring, device `p + 1 + k` keeping the one of its own at hop `k`.
-/
module

public import proofs.«01_k».proof.Proof.KernelIdeal.Prog
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

set_option backward.proofsInPublic true in
def fwd (c : Dev nD) (n : ℕ) : Dev nD := ⟨(c.val + n) % 8, Nat.mod_lt _ (by decide)⟩
set_option backward.proofsInPublic true in
def back (c : Dev nD) (n : ℕ) : Dev nD := ⟨(c.val + 7 * n) % 8, Nat.mod_lt _ (by decide)⟩

theorem toDev_true (c : Dev nD) : toDev c true = fwd c 1 := by revert c; decide +kernel
theorem toDev_false (c : Dev nD) : toDev c false = back c 1 := by revert c; decide +kernel
theorem toDev_toDev (c : Dev nD) (d : Bool) : toDev (toDev c d) (!d) = c := by revert c d; decide +kernel
theorem toDev_toDev' (c : Dev nD) (d : Bool) : toDev (toDev c (!d)) d = c := by revert c d; decide +kernel
theorem axDev_eq (c : Dev nD) (o : Fin 7) : axDev c o = back c (o.rev.val + 1) := by revert c o; decide +kernel
theorem axDev_ne (c : Dev nD) (o : Fin 7) : c ≠ axDev c o := by revert c o; decide +kernel
theorem axDev_inj (o : Fin 7) (c c' : Dev nD) (h : axDev c o = axDev c' o) : c = c' := by revert c c' o; decide +kernel
theorem back_fwd (p : Dev nD) (k : ℕ) : fwd (back p k) k = p := by
  apply Fin.ext; simp only [fwd, back]; have := p.isLt; change p.val < 8 at this; omega
theorem back_toDev (c : Dev nD) (h : Fin 7) : back (toDev c true) (h.val + 1) = back c h.val := by revert c h; decide +kernel

/-- The device whose magnitude the wait for offset `o + 1` is for. -/
def farDev (c : Dev nD) (o : Fin 7) : Dev nD := fwd c (o.val + 1)

/-! ## Cells -/

/-- A device's semaphores. -/
inductive Key where
  | bar
  | send (d : Bool) (h : Fin 7) (s : Fin 4)
  | recv (d : Bool) (h : Fin 7) (s : Fin 4)
  | axs (o : Fin 8)
  | axr (t : Dev nD)
deriving DecidableEq, Fintype

def csem : Key → SemLoc sig
  | .bar => .reg barS.sem
  | .send d h s => .dma (semOf (sendS d) h s)
  | .recv d h s => .dma (semOf (recvS d) h s)
  | .axs o => .dma (axOf cc0_scratch9 o)
  | .axr t => .dma (axOf cc0_scratch10 ⟨t.val, t.isLt⟩)

set_option maxRecDepth 100000 in
theorem csem_inj : Function.Injective csem := by decide +kernel

abbrev cell (c : Dev nD) (k : Key) : GSem nD τ sig := ((c : Thread nD τ), csem k)

theorem cell_inj {c c' : Dev nD} {k k' : Key} (h : cell c k = cell c' k') : c = c' ∧ k = k' :=
  ⟨congrArg (fun g : GSem nD τ sig => g.1.1) h, csem_inj (congrArg Prod.snd h)⟩

open Classical in
def keyAt (g : GSem nD τ sig) : Option Key := if h : g.1.2 = .tc ∧ ∃ k, csem k = g.2 then some h.2.choose else none

theorem keyAt_cell (c : Dev nD) (k : Key) : keyAt (cell c k) = some k := by
  have h : (cell c k).1.2 = .tc ∧ ∃ k', csem k' = (cell c k).2 := ⟨rfl, k, rfl⟩
  rw [keyAt, dif_pos h]
  exact congrArg some (csem_inj h.2.choose_spec)

theorem keyAt_none (c : Dev nD) (q : SemLoc sig) (h : ∀ k, csem k ≠ q) : keyAt ((c : Thread nD τ), q) = none := by
  rw [keyAt, dif_neg]; rintro ⟨-, k, hk⟩; exact h k hk

/-! ## The views -/

/-- Slot `t` of the table of magnitudes. -/
theorem slot_inb (t : Dev nD) : ∀ a, (![t.val, 0, 0] : Fin 3 → Nat) a + S1x8x128.size a ≤ S8x8x128.size a := by
  revert t; decide
abbrev slotRect (t : Dev nD) : Rect S8x8x128 := Rect.unit (s := S8x8x128) ![t.val, 0, 0] S1x8x128.size (slot_inb t)
abbrev slotM (t : Dev nD) : Memref sig .tc .vmem S8x128 .f32 := (aB.slice (slotRect t) (fun _ => rfl)).squeeze S8x128 squeezes_S1x8x128_S8x128

theorem mySlot_eq (c : Dev nD) : mySlot c = slotM c := by
  have h := k0_off7_eq c
  have key : ∀ (o : Fin 3 → Nat) (hb : ∀ a, o a + S1x8x128.size a ≤ S8x8x128.size a), o = ![c.val, 0, 0] →
      (aB.slice (Rect.unit (s := S8x8x128) o S1x8x128.size hb) (fun _ => rfl)).squeeze S8x128 squeezes_S1x8x128_S8x128 = slotM c := by
    intro o hb e; subst e; rfl
  exact key _ _ h
theorem mySem_eq (c : Dev nD) : mySem c = axOf cc0_scratch10 ⟨c.val, c.isLt⟩ := by revert c; decide +kernel
theorem farSem_eq (c : Dev nD) (o : Fin 7) : farSem c o = axOf cc0_scratch10 ⟨(farDev c o).val, (farDev c o).isLt⟩ := by revert c o; decide +kernel
theorem farDev_ne (c : Dev nD) (o : Fin 7) : farDev c o ≠ c := by revert c o; decide +kernel

/-- Bytes a transfer of a piece credits, and one of a slot. -/
abbrev NP : ℕ := (piece true 0 0).view.dmaCredit
abbrev NA : ℕ := (slotM 0).view.dmaCredit
theorem NP_pos : 0 < NP := View.dmaCredit_pos _ (by decide)
theorem NA_pos : 0 < NA := View.dmaCredit_pos _ (by decide)

/-! ## Contents -/

section Contents

variable (xg : Dev nD → Vec F S4096x512 .bf16) (wg : Dev nD → Vec F S512x2048 .bf16)

/-- The kernel's copy of the inputs. -/
def xs (c : Dev nD) : (cc0_scratch0 : Ref sig .tc).ty.Contents (Elt F) := k0_pay1 (xg c)
def ws (c : Dev nD) : (cc0_scratch1 : Ref sig .tc).ty.Contents (Elt F) := k0_pay2 (wg c)

/-- The tiles the body loads. -/
def xT (c : Dev nD) (d : Bool) (h : Fin 7) (s : Fin 4) : Vec F S128x512 .bf16 :=
  xB.view.readAt (Elt F) (Rect.unit (s := S4096x512) (offX c d h s) S128x512.size (offX_inb c d h s)).toLoadRect (xs xg c)
def xT0 (c : Dev nD) (d : Bool) (s : Fin 4) : Vec F S128x512 .bf16 :=
  xB.view.readAt (Elt F) (Rect.unit (s := S4096x512) (offX0 c d s) S128x512.size (offX0_inb c d s)).toLoadRect (xs xg c)
def wT (c : Dev nD) (q : Fin 4) : Vec F S512x512 .bf16 :=
  wB.view.readAt (Elt F) (Rect.unit (s := S512x2048) ![0, 512 * q.val] S512x512.size (offW_inb q)).toLoadRect (ws wg c)

/-- The running sums after a device has added its own tiles to the words `w`. -/
def sumA (w : IVec S128x512 32) (c : Dev nD) (d : Bool) (h : Fin 7) (s : Fin 4) : FVec F S128x512 .f32 :=
  addf (lo w) (mm (xT xg c d h s) (wT wg c (qA d)))
def sumB (w : IVec S128x512 32) (c : Dev nD) (d : Bool) (h : Fin 7) (s : Fin 4) : FVec F S128x512 .f32 :=
  addf (hi w) (mm (xT xg c d h s) (wT wg c (qB d)))

/-- The words device `c` sends at hop `n`. -/
def sent : ℕ → Dev nD → Bool → Fin 4 → IVec S128x512 32
  | 0, c, d, s => pack (mm (xT0 xg c d s) (wT wg c (qA d))) (mm (xT0 xg c d s) (wT wg c (qB d)))
  | n + 1, c, d, s =>
    let w := sent n (toDev c (!d)) d s
    pack (sumA xg wg w c d (Fin.ofNat 7 n) s) (sumB xg wg w c d (Fin.ofNat 7 n) s)
/-- The words that land at hop `h`. -/
def landed (h : Fin 7) (c : Dev nD) (d : Bool) (s : Fin 4) : IVec S128x512 32 := sent xg wg h.val (toDev c (!d)) d s
/-- The four tiles a hop computes. -/
def tileAt (c : Dev nD) (h : Fin 7) (s : Fin 4) : Fin 4 → FVec F S128x512 .f32 :=
  ![sumA xg wg (landed xg wg h c true s) c true h s, sumB xg wg (landed xg wg h c true s) c true h s,
    sumA xg wg (landed xg wg h c false s) c false h s, sumB xg wg (landed xg wg h c false s) c false h s]
/-- A device's rows of the sum, by row tile and column quarter. -/
def yAt (c : Dev nD) : Fin 4 → Fin 4 → FVec F S128x512 .f32 :=
  ![tileAt xg wg c 6 0, tileAt xg wg c 6 1, tileAt xg wg c 6 2, tileAt xg wg c 6 3]
/-- The table of magnitudes, filled. -/
def table : Vec F S8x8x128 .f32 := fun i => blockMax (yAt xg wg (i 0)) (fun | 0 => (0 : Fin 1) | 1 => i 1 | 2 => i 2)
/-- The largest magnitude. -/
def gmax : F .f32 := allMax (table xg wg)

end Contents

/-! ## Resources -/

/-- A piece of a transfer buffer at some contents, and at given words. -/
def pcE (c : Dev nD) (d : Bool) (j : Fin 8) (s : Fin 4) : sProp 𝕄 :=
  iprop(∃ f : Buf (Elt F) ((piece d j s).view.loc (c : Thread nD τ)), (piece d j s).view.loc (c : Thread nD τ) ↦[(piece d j s).view.set]{fullShare} f)
def pcW (c : Dev nD) (d : Bool) (j : Fin 8) (s : Fin 4) (w : IVec S128x512 32) : sProp 𝕄 :=
  iprop(∃ f : Buf (Elt F) ((piece d j s).view.loc (c : Thread nD τ)), ⌜(piece d j s).view.read (Elt F) f = w⌝
    ∗ (piece d j s).view.loc (c : Thread nD τ) ↦[(piece d j s).view.set]{fullShare} f)
/-- Slot `t` of device `p`'s table at some contents, and filled. -/
def slE (p t : Dev nD) : sProp 𝕄 :=
  iprop(∃ f : Buf (Elt F) ((slotM t).view.loc (p : Thread nD τ)), (slotM t).view.loc (p : Thread nD τ) ↦[(slotM t).view.set]{fullShare} f)
def slT (T : Vec F S8x8x128 .f32) (p t : Dev nD) (q : PosShare TreeShare) : sProp 𝕄 :=
  (slotM t).view.loc (p : Thread nD τ) ↦[(slotM t).view.set]{q} (T : Buf (Elt F) ((slotM t).view.loc (p : Thread nD τ)))

instance pcE_storable (c d j s) : BI.Storable (upEmb : UEmb _ 𝕄) (pcE (F := F) c d j s) := by unfold pcE; infer_instance
instance pcW_storable (c d j s w) : BI.Storable (upEmb : UEmb _ 𝕄) (pcW (F := F) c d j s w) := by unfold pcW; infer_instance
instance slE_storable (p t) : BI.Storable (upEmb : UEmb _ 𝕄) (slE (F := F) p t) := by unfold slE; infer_instance
instance slT_storable (T p t q) : BI.Storable (upEmb : UEmb _ 𝕄) (slT (F := F) T p t q) := by unfold slT; infer_instance

theorem pcW_pcE (c d j s w) : (pcW (F := F) c d j s w : sProp 𝕄) ⊢ pcE c d j s := by
  unfold pcW pcE; iintro ⟨%f, -, H⟩; iexists f; iexact H

/-- Device `p`'s slots from the `n`-th following device's on. -/
def slots (p : Dev nD) (n : ℕ) : sProp 𝕄 := bigSep (Finset.univ.filter fun k : Fin 7 => n ≤ k.val) fun k => slE p (fwd p (k.val + 1))
instance slots_storable (p n) : BI.Storable (upEmb : UEmb _ 𝕄) (slots (F := F) p n) := by unfold slots; infer_instance

/-- The slots that land with hop `h`, those that leave with it, the one that stays. -/
def slIn (c : Dev nD) (d : Bool) (h : ℕ) (s : Fin 4) : sProp 𝕄 := if d = true ∧ s = 0 then slots (back c (h + 1)) h else iprop(emp)
def slOut (c : Dev nD) (d : Bool) (h : ℕ) (s : Fin 4) : sProp 𝕄 := if d = true ∧ s = 0 then slots (back c h) h else iprop(emp)
def slKeep (c : Dev nD) (d : Bool) (h : ℕ) (s : Fin 4) : sProp 𝕄 := if d = true ∧ s = 0 then slE (back c (h + 1)) c else iprop(emp)
instance slIn_storable (c d h s) : BI.Storable (upEmb : UEmb _ 𝕄) (slIn (F := F) c d h s) := by unfold slIn; split <;> infer_instance

theorem slIn_split (c : Dev nD) (d : Bool) (h : ℕ) (hh : h < 7) (s : Fin 4) :
    (slIn c d h s : sProp 𝕄) ⊢ iprop(slKeep c d h s ∗ slOut c d (h + 1) s) := by
  unfold slIn slKeep slOut
  split
  · unfold slots
    have e : (Finset.univ.filter fun k : Fin 7 => h ≤ k.val) = insert ⟨h, hh⟩ (Finset.univ.filter fun k : Fin 7 => h + 1 ≤ k.val) := by
      ext k; simp only [Finset.mem_filter, Finset.mem_univ, true_and, Finset.mem_insert, Fin.ext_iff]; omega
    rw [e, bigSep_insert (by simp)]
    exact Entails.of_eq (by rw [back_fwd]; rfl)
  · iintro -; isplitr <;> iempintro

theorem slIn_toDev (c : Dev nD) (d : Bool) (h : Fin 7) (s : Fin 4) : (slIn (toDev c d) d h.val s : sProp 𝕄) = slOut c d h.val s := by
  unfold slIn slOut
  split
  · rename_i hd; rw [hd.1, back_toDev]
  · rfl

/-! ## The schedule -/

section Schedule

variable (xg : Dev nD → Vec F S4096x512 .bf16) (wg : Dev nD → Vec F S512x2048 .bf16)

/-- The semaphores a device uses: not the send semaphore of offset zero, not the one for its own magnitude. -/
def used (c : Dev nD) : Key → Prop
  | .axs o => o ≠ 0
  | .axr t => t ≠ c
  | _ => True
instance (c : Dev nD) (k : Key) : Decidable (used c k) := by cases k <;> unfold used <;> infer_instance

def dutyOf : Key → Finset Bool
  | .bar => Finset.univ
  | _ => {false}
def amountOf' : Key → ℕ
  | .bar => 1
  | .send _ _ _ => NP
  | .recv _ _ _ => NP
  | .axs _ => NA
  | .axr _ => NA
theorem amountOf'_pos (k : Key) : 0 < amountOf' k := by
  cases k <;> first | exact Nat.one_pos | exact NP_pos | exact NA_pos

/-- What paying a duty hands over. The barrier's: the payer's transfer buffer on the way from the receiver, save its last slot. -/
def pay (c : Dev nD) : Key → Bool → sProp 𝕄
  | .bar, b => bigSep Finset.univ fun i : Fin 7 × Fin 4 => pcE (toDev c (!b)) (!b) (dstSlot i.1) i.2
  | .send d h s, _ => pcE c d (srcSlot h) s
  | .recv d h s, _ => iprop(pcW c d (dstSlot h) s (landed xg wg h c d s) ∗ slIn c d h.val s)
  | .axs o, _ => slT (table xg wg) c c (ShareLeaves.leaf 3 fullShare o)
  | .axr t, _ => slT (table xg wg) c t fullShare
instance pay_storable (c k b) : BI.Storable (upEmb : UEmb _ 𝕄) (pay xg wg c k b) := by
  cases k <;> unfold pay <;> infer_instance

def ringRd : Rounds.Schedule (GSem nD τ sig) Bool 𝕄 where
  duties g r := match keyAt g with
    | some k => if r = 0 ∧ used g.1.1 k then dutyOf k else ∅
    | none => ∅
  unitless _ := False
  amount g _ _ := match keyAt g with
    | some k => amountOf' k
    | none => 1
  payload g _ b := match keyAt g with
    | some k => pay xg wg g.1.1 k b
    | none => iprop(emp)
  amount_pos g _ _ _ := by
    cases keyAt g with
    | none => exact Nat.one_pos
    | some k => exact amountOf'_pos k

instance ringRd_storable (g : GSem nD τ sig) (r : ℕ) (b : Bool) : BI.Storable (upEmb : UEmb _ 𝕄) ((ringRd xg wg).payload g r b) := by
  show BI.Storable upEmb (match keyAt g with | some k => pay xg wg g.1.1 k b | none => iprop(emp))
  split <;> infer_instance

theorem duties_cell (c : Dev nD) (k : Key) (hk : used c k) : (ringRd xg wg).duties (cell c k) 0 = dutyOf k := by
  dsimp only [ringRd]; rw [keyAt_cell]; exact if_pos ⟨rfl, hk⟩
theorem duties_later (c : Dev nD) (k : Key) : ∀ r, 1 ≤ r → (ringRd xg wg).duties (cell c k) r = ∅ := fun r hr => by
  dsimp only [ringRd]; rw [keyAt_cell]; exact if_neg fun h => by omega
theorem duties_unused (c : Dev nD) (k : Key) (hk : ¬ used c k) : ∀ r, 0 ≤ r → (ringRd xg wg).duties (cell c k) r = ∅ := fun r hr => by
  dsimp only [ringRd]; rw [keyAt_cell]; exact if_neg fun h => hk h.2
theorem amount_cell (c : Dev nD) (k : Key) (r : ℕ) (b : Bool) : (ringRd xg wg).amount (cell c k) r b = amountOf' k := by
  dsimp only [ringRd]; rw [keyAt_cell]
theorem payload_cell (c : Dev nD) (k : Key) (r : ℕ) (b : Bool) : (ringRd xg wg).payload (cell c k) r b = pay xg wg c k b := by
  dsimp only [ringRd]; rw [keyAt_cell]
theorem expect_cell (c : Dev nD) (k : Key) (hk : used c k) : (ringRd xg wg).expect (cell c k) 0 = (dutyOf k).card * amountOf' k := by
  unfold Schedule.expect Schedule.amountOf
  rw [duties_cell xg wg c k hk, Finset.sum_congr rfl fun b _ => amount_cell xg wg c k 0 b, Finset.sum_const, smul_eq_mul]
/-- The one payload of a cell with one duty; the two of the barrier. -/
theorem rest_cell (c : Dev nD) (k : Key) (hk : used c k) (hd : dutyOf k = {false}) :
    bigSep ((ringRd xg wg).duties (cell c k) 0 \ ∅) (fun b => (ringRd xg wg).payload (cell c k) 0 b) = pay xg wg c k false := by
  rw [Finset.sdiff_empty, duties_cell xg wg c k hk, hd, bigSep_singleton, payload_cell]
theorem rest_bar (c : Dev nD) :
    bigSep ((ringRd xg wg).duties (cell c .bar) 0 \ ∅) (fun b => (ringRd xg wg).payload (cell c .bar) 0 b) = iprop(pay xg wg c .bar false ∗ pay xg wg c .bar true) := by
  rw [Finset.sdiff_empty, duties_cell xg wg c .bar trivial, show dutyOf .bar = Finset.univ from rfl, bigSep_univ_eq_bigSepL [false, true] (by decide) (by decide),
    bigSepL_cons_cons, bigSepL_singleton, payload_cell, payload_cell]
  rfl

end Schedule

/-! ## What a device pays -/

/-- The duties a device pays: its two barrier signals; each hop's landing at the neighbour and its own send semaphore;
    each magnitude's landing and its own send semaphore. -/
inductive Tok where
  | bar (b : Bool)
  | land (d : Bool) (h : Fin 7) (s : Fin 4)
  | src (d : Bool) (h : Fin 7) (s : Fin 4)
  | axl (o : Fin 7)
  | axo (o : Fin 7)
deriving DecidableEq, Fintype

def payDev (c : Dev nD) : Tok → Dev nD
  | .bar b => toDev c b
  | .land d _ _ => toDev c d
  | .src _ _ _ => c
  | .axl o => axDev c o
  | .axo _ => c
def payKey (c : Dev nD) : Tok → Key
  | .bar _ => .bar
  | .land d h s => .recv d h s
  | .src d h s => .send d h s
  | .axl _ => .axr c
  | .axo o => .axs o.succ
def payDuty : Tok → Bool
  | .bar b => b
  | _ => false
abbrev payCell (c : Dev nD) (j : Tok) : GSem nD τ sig := cell (payDev c j) (payKey c j)
abbrev payAmt (c : Dev nD) (j : Tok) : ℕ := amountOf' (payKey c j)
/-- The order a device pays the other devices in; zero for its own semaphores. -/
def rank : Tok → ℕ
  | .bar b => if b then 2 else 1
  | .land d h s => 3 + 8 * h.val + 2 * s.val + (if d then 0 else 1)
  | .src _ _ _ => 0
  | .axl o => 59 + o.val
  | .axo _ => 0

set_option maxRecDepth 100000 in
theorem rank_inj : ∀ j j' : Tok, rank j = rank j' → rank j ≠ 0 → j = j' := by decide +kernel

/-- What a device still owes from rank `n` on. -/
def pend (n : ℕ) : Finset Tok := Finset.univ.filter fun j => n ≤ rank j
def owedFrom (n : ℕ) (c : Dev nD) : CellTallies nD τ sig Unit := ∑ j ∈ pend n, tallyAt (payCell c j) () (payAmt c j)

theorem owedFrom_peel (c : Dev nD) (j : Tok) (n : ℕ) (hj : rank j = n) (hn : n ≠ 0) :
    owedFrom n c = owedFrom (n + 1) c + tallyAt (payCell c j) () (payAmt c j) := by
  have e : pend n = insert j (pend (n + 1)) := by
    ext j'; simp only [pend, Finset.mem_filter, Finset.mem_univ, true_and, Finset.mem_insert]
    constructor
    · intro h
      by_cases h' : rank j' = n
      · exact Or.inl (rank_inj j' j (h'.trans hj.symm) (by omega))
      · exact Or.inr (by omega)
    · rintro (rfl | h) <;> omega
  unfold owedFrom
  rw [e, Finset.sum_insert (by simp only [pend, Finset.mem_filter]; omega), add_comm]

theorem owedFrom_end (c : Dev nD) : owedFrom 66 c = 0 := by
  have : pend 66 = ∅ := by decide +kernel
  unfold owedFrom; rw [this, Finset.sum_empty]

theorem owedFrom_pos {n : ℕ} {c : Dev nD} {g : GSem nD τ sig} {u : Unit} (h : 0 < owedFrom n c g u) : ∃ j, n ≤ rank j ∧ g = payCell c j := by
  by_contra hn
  push Not at hn
  refine absurd h (Nat.not_lt.mpr (Nat.le_zero.mpr ?_))
  unfold owedFrom
  rw [Finset.sum_apply, Finsupp.finsetSum_apply]
  refine Finset.sum_eq_zero fun j hj => ?_
  rw [tallyAt_apply, if_neg]
  rintro ⟨h1, -⟩
  exact hn j (Finset.mem_filter.mp hj).2 h1

/-! ## Levels -/

def L (g : GSem nD τ sig) : Finset Unit := if g.1.2 = .tc then {()} else ∅
def lvKey : Key → ℕ
  | .bar => 1
  | .recv _ h _ => h.val + 2
  | .axr _ => 100
  | _ => 0
def lv (g : GSem nD τ sig) (_ : Unit) : ℕ := match keyAt g with
  | some k => lvKey k
  | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) (u : Unit) : lv (cell c k) u = lvKey k := by unfold lv; rw [keyAt_cell]

/-- A wait on a semaphore of a level below all that is owed. -/
theorem mayWait_of (c : Dev nD) (q : SemLoc sig) (n v : ℕ) (hv : lv ((c : Thread nD τ), q) () ≤ v) (h : ∀ j, n ≤ rank j → v < lvKey (payKey c j)) :
    (levAts L lv : sProp 𝕄) ⊢ MayWait (c : Thread nD τ) q () (owedFrom n c) :=
  MayOwe.of_cut (L := L) (lev := lv) v (fun p hp => by rw [Finset.mem_singleton.mp hp, L_tc]; exact Finset.mem_singleton_self _)
    (fun g u hg => by obtain ⟨j, -, rfl⟩ := owedFrom_pos hg; exact Finset.mem_singleton_self _)
    (fun p hp => by rw [Finset.mem_singleton.mp hp]; exact hv)
    (fun g u hg => by obtain ⟨j, hj, rfl⟩ := owedFrom_pos hg; rw [lv_cell]; exact h j hj)

end Cert.KernelIdeal.Ring
end
-- ==== Proof.KernelIdeal.Steps.lean ====
/-
  Each effect of the body as one rule, over the resources of the protocol.
-/
module

public import proofs.«01_k».proof.Proof.KernelIdeal.Common
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Reading and writing a piece -/

theorem flat_read (d : Bool) (j : Fin 8) (s : Fin 4) (f : (comm d).view.ty.Contents (Elt F)) :
    flat (F := F) ((comm d).view.readAt (Elt F) (pieceRect j s).toLoadRect f) = (piece d j s).view.read (Elt F) f := by
  rfl

theorem read_packed (d : Bool) (j : Fin 8) (s : Fin 4) (f : (comm d).view.ty.Contents (Elt F)) (u v : FVec F S128x512 .f32) :
    (piece d j s).view.read (Elt F) (((comm d).access (pieceRect j s)).write (Elt F) f (packS u v) Finset.univ) = pack u v := by
  have h : (piece d j s).view.read (Elt F) (((comm d).access (pieceRect j s)).write (Elt F) f (packS u v) Finset.univ)
      = flat (F := F) (((comm d).access (pieceRect j s)).read (Elt F) (((comm d).access (pieceRect j s)).write (Elt F) f (packS u v) Finset.univ)) := rfl
  rw [h, View.read_write_univ]
  exact shapeCast_shapeCast _ _ _

theorem piece_set (d : Bool) (j : Fin 8) (s : Fin 4) : (piece d j s).view.set = ((comm d).access (pieceRect j s)).set := View.set_reshape _ _
theorem slot_set (t : Dev nD) : (slotM t).view.set = (aB.access (slotRect t)).set := View.set_reshape _ _

/-- Elements written through a view are at any contents it reads the same of. -/
theorem pts_write_eq {c : Thread nD τ} {sp : Space} {s : Shape} {e : EltTy} (v : View sig c.2.kind sp s e) (q : PosShare TreeShare) (f g : Buf (Elt F) (v.loc c))
    (w : s.Idx → Elt F e) (h : v.read (Elt F) g = w) :
    (v.loc c ↦[v.set]{q} v.write (Elt F) f w Finset.univ : sProp 𝕄) = v.loc c ↦[v.set]{q} g :=
  pointsTo_congr fun i hi => by
    obtain ⟨x, -, rfl⟩ := Finset.mem_map.mp hi
    rw [View.write_emb_of_mem _ _ (Finset.mem_univ _), ← h, View.read_apply, cast_cast, cast_eq]

/-! ## What a device holds -/

abbrev 𝒱₀ : Variants := Variants.none

/-- A program on device `c`, run to `Q`. -/
abbrev WP (c : Dev nD) {α : Type} (p : P (F := F) α) (Q : α → sProp 𝕄) : sProp 𝕄 :=
  wp frame (wpE (defs₀ (F := F)) 𝒱₀ (c : Thread nD τ) none) Set.univ p Q

/-- What device `c` owes from rank `n` on. -/
def ow' (c : Dev nD) (n : ℕ) : sProp 𝕄 := iprop(∃ W, owes (c : Thread nD τ) (owedFrom n c) W)

section

variable (xg : Dev nD → Vec F S4096x512 .bf16) (wg : Dev nD → Vec F S512x2048 .bf16) (K : Dev nD × Key → ℕ)

/-- The invariants of all cells, and that every cell is at round zero. -/
def records : sProp 𝕄 :=
  iprop((bigSep Finset.univ fun ck : Dev nD × Key => cellInv ER (ringRd xg wg) (K ck) (cell ck.1 ck.2))
    ∗ bigSep Finset.univ fun ck : Dev nD × Key => reached ER (cell ck.1 ck.2) 0)
instance records_persistent : BI.Persistent (records xg wg K) := by unfold records; infer_instance
theorem inv_at (c : Dev nD) (k : Key) : records xg wg K ⊢ cellInv ER (ringRd xg wg) (K (c, k)) (cell c k) := by
  unfold records; exact sep_elim_left.trans (bigSep_elim (Φ := fun ck : Dev nD × Key => (cellInv ER (ringRd xg wg) (K ck) (cell ck.1 ck.2) : sProp 𝕄)) (Finset.mem_univ (c, k)))
theorem reached_at (c : Dev nD) (k : Key) : records xg wg K ⊢ reached ER (cell c k) 0 := by
  unfold records; exact sep_elim_right.trans (bigSep_elim (Φ := fun ck : Dev nD × Key => (reached ER (cell ck.1 ck.2) 0 : sProp 𝕄)) (Finset.mem_univ (c, k)))

/-- The token of a duty. -/
def tok (c : Dev nD) (j : Tok) : sProp 𝕄 := dutyTok ER (payCell c j) 0 (payDuty j)
/-- The right to wait on a cell; the cell once done. -/
def at0 (c : Dev nD) (k : Key) : sProp 𝕄 := atPos ER (cell c k) 0 ∅ 0
def zero (c : Dev nD) (k : Key) : sProp 𝕄 := semVal (cell c k) 0
def crd (c : Dev nD) (k : Key) : sProp 𝕄 := cred (tallyAt (cell c k) () ((dutyOf k).card * amountOf' k))

/-- A cell whose one round is over. -/
theorem close_cell (c : Dev nD) (k : Key) :
    iprop(records xg wg K ∗ atPos ER (cell c k) (0 + 1) ∅ 0) ⊢ (|={Set.univ}=> zero c k : sProp 𝕄) := by
  iintro ⟨#HR, Hat⟩
  unfold zero
  iapply (Rounds.cell_close ER (ringRd xg wg) (Set.mem_univ (K (c, k))) (fun h => h) (R := 0 + 1) (duties_later xg wg c k))
  isplitr; · iapply (inv_at xg wg K c k); iexact HR
  iexact Hat
theorem close_unused (c : Dev nD) (k : Key) (hk : ¬ used c k) :
    iprop(records xg wg K ∗ at0 c k) ⊢ (|={Set.univ}=> zero c k : sProp 𝕄) := by
  iintro ⟨#HR, Hat⟩
  unfold zero at0
  iapply (Rounds.cell_close ER (ringRd xg wg) (Set.mem_univ (K (c, k))) (fun h => h) (R := 0) (duties_unused xg wg c k hk))
  isplitr; · iapply (inv_at xg wg K c k); iexact HR
  iexact Hat

/-- A wait for all of a cell's round, at the end of which the cell is done: what its duties hand over comes with it. -/
theorem wait_cell (c : Dev nD) (k : Key) (hk : used c k) (n : ℕ) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) ((dutyOf k).card * amountOf' k) Kt)
    (hmay : (levAts L lv : sProp 𝕄) ⊢ MayWait (c : Thread nD τ) (csem k) () (owedFrom n c))
    {α : Type} {kt : PUnit → P (F := F) α} {Q : α → sProp 𝕄} :
    iprop(records xg wg K ∗ levAts L lv ∗ ow' c n ∗ crd c k ∗ at0 c k)
      ⊢ iprop((ow' c n ∗ zero c k ∗ bigSep ((ringRd xg wg).duties (cell c k) 0 \ ∅) (fun b => (ringRd xg wg).payload (cell c k) 0 b) -∗ WP c (kt ⟨⟩) Q)
          -∗ WP c (.op w kt) Q) := by
  iintro ⟨#HR, #Hl, Ho, Hc, Ha⟩ Hk
  unfold ow' crd at0
  icases Ho with ⟨%W, HO⟩
  iapply (Rounds.wp_wait_rest_token 𝒱₀ ER (ringRd xg wg) (c : Thread nD τ) none (κ := K (c, k))
      hw (Set.mem_univ _) () (O := owedFrom n c) (W := W) (R := 0) (m := 0) (T := ∅)
      (by rw [Nat.zero_add, expect_cell xg wg c k hk])) $$ [Hc HO Ha]
  · isplitr; · iapply (inv_at xg wg K c k); iexact HR
    isplitl [Hc]; · iexact Hc
    isplitl [HO]; · iexact HO
    isplitr; · iapply hmay; iexact Hl
    iexact Ha
  iintro ⟨HO, Hat, -, Hpay⟩
  imod (close_cell xg wg K c k) $$ [Hat] with Hz
  · isplitr; · iexact HR
    iexact Hat
  iapply Hk
  isplitl [HO]; · iexists _; iexact HO
  isplitl [Hz]; · iexact Hz
  iexact Hpay

/-- A transfer that pays duty `jl` at a peer and `js` on the sender's own semaphore. -/
theorem send_cell (c c' n : Dev nD) (hn : n = c') (jl js : Tok) (hl : payDev c jl = c') (hs : payDev c js = c) (r : ℕ) (hr : rank jl = r) (hr0 : r ≠ 0)
    (dl : payDuty jl = false) (ds : payDuty js = false) (ul : used c' (payKey c jl)) (us : used c (payKey c js))
    (ol : dutyOf (payKey c jl) = {false}) (os : dutyOf (payKey c js) = {false})
    {sh : Shape} {e : EltTy} {src dst : Memref sig .tc .vmem sh e} {sS sV : SemLoc sig} (eS : sS = csem (payKey c js)) (eV : sV = csem (payKey c jl))
    {hsc : (dst : Memref sig (Dev.tc n : Thread nD τ).2.kind .vmem sh e).view.ref.isScScratch = false}
    {hsrc : src.view.WordExact} {hdst : dst.view.WordExact}
    {hsem : DmaTarget.Typed .vmem sV (.remote (Dev.tc n : Thread nD τ) dst sS hsc)}
    {q : PosShare TreeShare} {fs : Buf (Elt F) (src.view.loc (c : Thread nD τ))} {fd : Buf (Elt F) (dst.view.loc (c' : Thread nD τ))} {X : sProp 𝕄}
    (N : ℕ) (hN : dst.view.amount sV = N) (hl' : amountOf' (payKey c jl) = N) (hs' : amountOf' (payKey c js) = N)
    (hpay₁ : (src.view.loc (c : Thread nD τ) ↦[src.view.set]{q} fs : sProp 𝕄) ⊢ pay xg wg c (payKey c js) false)
    (hpay₂ : iprop((dst.view.loc (c' : Thread nD τ) ↦[dst.view.set]{fullShare} (dst.view.write (Elt F) fd (src.view.read (Elt F) fs) Finset.univ)) ∗ X)
      ⊢ pay xg wg c' (payKey c jl) false)
    {α : Type} {kt : PUnit → P (F := F) α} {Q : α → sProp 𝕄} :
    iprop(records xg wg K ∗ (src.view.loc (c : Thread nD τ) ↦[src.view.set]{q} fs) ∗ ((dst.view.loc (c' : Thread nD τ) ↦[dst.view.set]{fullShare} fd) ∗ X)
        ∗ ow' c r ∗ tok c js ∗ tok c jl)
      ⊢ iprop((crd c (payKey c js) ∗ ow' c (r + 1) -∗ WP c (kt ⟨⟩) Q)
          -∗ WP c (.op (.enqueueDma src (.remote (Dev.tc n : Thread nD τ) dst sS hsc) sV hsrc hdst hsem) kt) Q) := by
  subst hn; subst eS; subst eV
  iintro ⟨#HR, Hs, Hd, Ho, Hts, Htl⟩ Hk
  unfold ow' tok
  rw [dl, ds, show payCell c js = cell c (payKey c js) by rw [payCell, hs], show payCell c jl = cell n (payKey c jl) by rw [payCell, hl]]
  icases Ho with ⟨%W, HO⟩
  iapply (Rounds.wp_send_pointsTo_with 𝒱₀ ER (ringRd xg wg) (c : Thread nD τ) none (κ₁ := K (c, payKey c js)) (κ₂ := K (n, payKey c jl))
    (r₁ := 0) (r₂ := 0) (d₁ := false) (d₂ := false) (fd := fd) (F := X)
    (by rw [duties_cell xg wg c _ us, os]; exact Finset.mem_singleton_self _) (by rw [duties_cell xg wg n _ ul, ol]; exact Finset.mem_singleton_self _)
    () () N hN (by rw [amount_cell]; exact hs') (by rw [amount_cell]; exact hl') (owedFrom (r + 1) c)
    (O₀ := owedFrom r c) (by rw [owedFrom_peel c jl r hr hr0, payCell, hl, payAmt, hl']) (W := W)
    (by rw [payload_cell]; exact hpay₁) (by rw [payload_cell]; exact hpay₂)) $$ [Hs Hd HO Hts Htl]
  · isplitr; · iapply (inv_at xg wg K c (payKey c js)); iexact HR
    isplitr; · iapply (inv_at xg wg K n (payKey c jl)); iexact HR
    isplitl [Hs]; · iexact Hs
    isplitl [Hd]; · iexact Hd
    isplitl [HO]; · iexact HO
    isplitl [Hts]; · iexact Hts
    isplitr; · iapply (reached_at xg wg K c (payKey c js)); iexact HR
    isplitl [Htl]; · iexact Htl
    iapply (reached_at xg wg K n (payKey c jl)); iexact HR
  iintro ⟨Hc, HO⟩
  iapply Hk
  isplitl [Hc]; · unfold crd; rw [os, hs', Finset.card_singleton, Nat.one_mul]; iexact Hc
  iexists W; iexact HO

theorem pay_bar (c : Dev nD) (b : Bool) : pay xg wg c .bar b = bigSep Finset.univ fun i : Fin 7 × Fin 4 => pcE (toDev c (!b)) (!b) (dstSlot i.1) i.2 := rfl
/-- A barrier signal to a neighbour, with its slots of this device. -/
theorem signal_bar (c n : Dev nD) (b : Bool) (hn : n = toDev c b) (r : ℕ) (hr : rank (.bar b) = r) (hr0 : r ≠ 0)
    {α : Type} {kt : PUnit → P (F := F) α} {Q : α → sProp 𝕄} :
    iprop(records xg wg K ∗ ow' c r ∗ tok c (.bar b) ∗ bigSep Finset.univ (fun i : Fin 7 × Fin 4 => pcE c (!b) (dstSlot i.1) i.2))
      ⊢ iprop((ow' c (r + 1) -∗ WP c (kt ⟨⟩) Q)
          -∗ WP c (.op (.semSignal (n : Thread nD τ) barS.sem 1) kt) Q) := by
  subst hn
  iintro ⟨#HR, Ho, Ht, Hp⟩ Hk
  unfold ow' tok
  icases Ho with ⟨%W, HO⟩
  iapply (Rounds.wp_signal 𝒱₀ ER (ringRd xg wg) (c : Thread nD τ) none (dst := (toDev c b : Thread nD τ)) (κ := K (toDev c b, .bar)) (r := 0)
      (d := b) (by rw [show ((toDev c b : Thread nD τ), SemLoc.reg barS.sem) = cell (toDev c b) .bar from rfl, duties_cell xg wg (toDev c b) .bar trivial]; exact Finset.mem_univ _)
      (by rw [show ((toDev c b : Thread nD τ), SemLoc.reg barS.sem) = cell (toDev c b) .bar from rfl, amount_cell]; rfl) () (owedFrom (r + 1) c)
      (owedFrom_peel c (.bar b) r hr hr0) (W := W)) $$ [HO Ht Hp]
  · isplitr; · iapply (inv_at xg wg K (toDev c b) .bar); iexact HR
    isplitl [HO]; · iexact HO
    isplitl [Ht]; · iexact Ht
    isplitl [Hp]
    · rw [show ((toDev c b : Thread nD τ), SemLoc.reg barS.sem) = cell (toDev c b) .bar from rfl, payload_cell]
      rw [pay_bar, toDev_toDev]; iexact Hp
    · iapply (reached_at xg wg K (toDev c b) .bar); iexact HR
  iintro HO
  iapply Hk
  iexists W; iexact HO

end

end Cert.KernelIdeal.Ring
end
-- ==== Proof.KernelIdeal.Moves.lean ====
/-
  The parts of the body: meeting the neighbours, copying the inputs, the opening sends, one hop.
-/
module

public import proofs.«01_k».proof.Proof.KernelIdeal.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (xg : Dev nD → Vec F S4096x512 .bf16) (wg : Dev nD → Vec F S512x2048 .bf16) (K : Dev nD × Key → ℕ)

/-- A buffer of device `c`'s at known contents. -/
abbrev buf (c : Dev nD) (b : Ref sig .tc) (f : b.ty.Contents (Elt F)) : sProp 𝕄 := ((c : Thread nD τ).loc b) ↦{fullShare} f
abbrev bufE (c : Dev nD) (b : Ref sig .tc) : sProp 𝕄 := iprop(∃ f : Buf (Elt F) ((c : Thread nD τ).loc b), ((c : Thread nD τ).loc b) ↦{fullShare} f)

/-- What every step keeps: the records, the levels, the copied inputs, and what is owed from `n` on. -/
def base (c : Dev nD) (n : ℕ) : sProp 𝕄 :=
  iprop(records xg wg K ∗ levAts L lv ∗ buf c cc0_scratch0 (xs xg c) ∗ buf c cc0_scratch1 (ws wg c) ∗ ow' c n)

/-- What a send needs besides the words: the neighbour's piece and the two duties it pays. -/
def need (c : Dev nD) (d : Bool) (h : Fin 7) (s : Fin 4) : sProp 𝕄 :=
  iprop(pcE (toDev c d) d (dstSlot h) s ∗ tok c (.src d h s) ∗ tok c (.land d h s))
/-- The right to wait on a cell, with what it takes. -/
def due (c : Dev nD) (k : Key) : sProp 𝕄 := iprop(crd c k ∗ at0 c k)

/-! ## Running several -/

theorem four_rule (c : Dev nD) (f : Fin 4 → P (F := F) PUnit) (I : ℕ → sProp 𝕄) (A B : Fin 4 → sProp 𝕄)
    (hf : ∀ (s : Fin 4) {α : Type} (kt : PUnit → P (F := F) α) (Q : α → sProp 𝕄),
      iprop(I s.val ∗ A s) ⊢ iprop((I (s.val + 1) ∗ B s -∗ WP c (kt ⟨⟩) Q) -∗ WP c (f s >>= kt) Q))
    {α : Type} (kt : PUnit → P (F := F) α) (Q : α → sProp 𝕄) :
    iprop(I 0 ∗ bigSep Finset.univ A) ⊢ iprop((I 4 ∗ bigSep Finset.univ B -∗ WP c (kt ⟨⟩) Q) -∗ WP c (four f >>= kt) Q) := by
  rw [bigSep_univ_eq_bigSepL [0, 1, 2, 3] (by decide) (by decide) A, bigSep_univ_eq_bigSepL [0, 1, 2, 3] (by decide) (by decide) B]
  show iprop(I 0 ∗ A 0 ∗ A 1 ∗ A 2 ∗ A 3) ⊢ iprop((I 4 ∗ B 0 ∗ B 1 ∗ B 2 ∗ B 3 -∗ WP c (kt ⟨⟩) Q) -∗ WP c (four f >>= kt) Q)
  have step : ∀ (s : Fin 4) (n m : ℕ) (hn : s.val = n) (hm : n + 1 = m) (kt : PUnit → P (F := F) α),
      iprop(I n ∗ A s) ⊢ iprop((I m ∗ B s -∗ WP c (kt ⟨⟩) Q) -∗ WP c (f s >>= kt) Q) := by
    intro s n m hn hm kt; subst hn; subst hm; exact hf s kt Q
  simp only [four, Prog.bind_assoc]
  iintro ⟨HI, H0, H1, H2, H3⟩ Hk
  iapply (step 0 0 1 rfl rfl _) $$ [HI H0]; · isplitl [HI] <;> iassumption
  iintro ⟨HI, H0⟩
  iapply (step 1 1 2 rfl rfl _) $$ [HI H1]; · isplitl [HI] <;> iassumption
  iintro ⟨HI, H1⟩
  iapply (step 2 2 3 rfl rfl _) $$ [HI H2]; · isplitl [HI] <;> iassumption
  iintro ⟨HI, H2⟩
  iapply (step 3 3 4 rfl rfl _) $$ [HI H3]; · isplitl [HI] <;> iassumption
  iintro ⟨HI, H3⟩
  iapply Hk
  isplitl [HI]; · iexact HI
  isplitl [H0]; · iexact H0
  isplitl [H1]; · iexact H1
  isplitl [H2] <;> iassumption

theorem seven_rule (c : Dev nD) (f : Fin 7 → P (F := F) PUnit) (I : ℕ → sProp 𝕄) (A B : Fin 7 → sProp 𝕄)
    (hf : ∀ (s : Fin 7) {α : Type} (kt : PUnit → P (F := F) α) (Q : α → sProp 𝕄),
      iprop(I s.val ∗ A s) ⊢ iprop((I (s.val + 1) ∗ B s -∗ WP c (kt ⟨⟩) Q) -∗ WP c (f s >>= kt) Q))
    {α : Type} (kt : PUnit → P (F := F) α) (Q : α → sProp 𝕄) :
    iprop(I 0 ∗ bigSep Finset.univ A) ⊢ iprop((I 7 ∗ bigSep Finset.univ B -∗ WP c (kt ⟨⟩) Q) -∗ WP c (seven f >>= kt) Q) := by
  rw [bigSep_univ_eq_bigSepL [0, 1, 2, 3, 4, 5, 6] (by decide) (by decide) A, bigSep_univ_eq_bigSepL [0, 1, 2, 3, 4, 5, 6] (by decide) (by decide) B]
  show iprop(I 0 ∗ A 0 ∗ A 1 ∗ A 2 ∗ A 3 ∗ A 4 ∗ A 5 ∗ A 6)
    ⊢ iprop((I 7 ∗ B 0 ∗ B 1 ∗ B 2 ∗ B 3 ∗ B 4 ∗ B 5 ∗ B 6 -∗ WP c (kt ⟨⟩) Q) -∗ WP c (seven f >>= kt) Q)
  have step : ∀ (s : Fin 7) (n m : ℕ) (hn : s.val = n) (hm : n + 1 = m) (kt : PUnit → P (F := F) α),
      iprop(I n ∗ A s) ⊢ iprop((I m ∗ B s -∗ WP c (kt ⟨⟩) Q) -∗ WP c (f s >>= kt) Q) := by
    intro s n m hn hm kt; subst hn; subst hm; exact hf s kt Q
  simp only [seven, Prog.bind_assoc]
  iintro ⟨HI, H0, H1, H2, H3, H4, H5, H6⟩ Hk
  iapply (step 0 0 1 rfl rfl _) $$ [HI H0]; · isplitl [HI] <;> iassumption
  iintro ⟨HI, H0⟩
  iapply (step 1 1 2 rfl rfl _) $$ [HI H1]; · isplitl [HI] <;> iassumption
  iintro ⟨HI, H1⟩
  iapply (step 2 2 3 rfl rfl _) $$ [HI H2]; · isplitl [HI] <;> iassumption
  iintro ⟨HI, H2⟩
  iapply (step 3 3 4 rfl rfl _) $$ [HI H3]; · isplitl [HI] <;> iassumption
  iintro ⟨HI, H3⟩
  iapply (step 4 4 5 rfl rfl _) $$ [HI H4]; · isplitl [HI] <;> iassumption
  iintro ⟨HI, H4⟩
  iapply (step 5 5 6 rfl rfl _) $$ [HI H5]; · isplitl [HI] <;> iassumption
  iintro ⟨HI, H5⟩
  iapply (step 6 6 7 rfl rfl _) $$ [HI H6]; · isplitl [HI] <;> iassumption
  iintro ⟨HI, H6⟩
  iapply Hk
  isplitl [HI]; · iexact HI
  isplitl [H0]; · iexact H0
  isplitl [H1]; · iexact H1
  isplitl [H2]; · iexact H2
  isplitl [H3]; · iexact H3
  isplitl [H4]; · iexact H4
  isplitl [H5] <;> iassumption

/-! ## The barrier and the copies -/

theorem mayWait_bar (c : Dev nD) : (levAts L lv : sProp 𝕄) ⊢ MayWait (c : Thread nD τ) (csem .bar) () (owedFrom 3 c) := by
  refine mayWait_of c _ 3 1 (by rw [lv_cell]; exact Nat.le_refl _) fun j hj => ?_
  cases j <;> simp only [rank, payKey, lvKey] at hj ⊢ <;> (try split at hj) <;> omega

theorem meet_rule (c : Dev nD) {α : Type} (kt : PUnit → P (F := F) α) (Q : α → sProp 𝕄) :
    iprop(records xg wg K ∗ levAts L lv ∗ ow' c 1 ∗ tok c (.bar false) ∗ tok c (.bar true)
        ∗ bigSep Finset.univ (fun i : Fin 7 × Fin 4 => pcE c true (dstSlot i.1) i.2) ∗ bigSep Finset.univ (fun i : Fin 7 × Fin 4 => pcE c false (dstSlot i.1) i.2)
        ∗ due c .bar)
      ⊢ iprop((ow' c 3 ∗ zero c .bar ∗ bigSep Finset.univ (fun i : Fin 7 × Fin 4 => pcE (toDev c true) true (dstSlot i.1) i.2)
            ∗ bigSep Finset.univ (fun i : Fin 7 × Fin 4 => pcE (toDev c false) false (dstSlot i.1) i.2) -∗ WP c (kt ⟨⟩) Q)
          -∗ WP c (meet c >>= kt) Q) := by
  simp only [meet, semSignalWord, semWaitWord, Prog.lift, Prog.bind_op, Prog.bind_ret, Prog.pure_eq_ret, Prog.bind_assoc]
  unfold due
  iintro ⟨#HR, #Hl, Ho, Ht0, Ht1, Hp1, Hp0, Hc, Ha⟩ Hk
  iapply (signal_bar xg wg K c _ false rfl 1 rfl (by decide)) $$ [Ho Ht0 Hp1]
  · isplitr; · iexact HR
    isplitl [Ho]; · iexact Ho
    isplitl [Ht0]; · iexact Ht0
    iexact Hp1
  iintro Ho
  iapply (signal_bar xg wg K c _ true rfl 2 rfl (by decide)) $$ [Ho Ht1 Hp0]
  · isplitr; · iexact HR
    isplitl [Ho]; · iexact Ho
    isplitl [Ht1]; · iexact Ht1
    iexact Hp0
  iintro Ho
  iapply (wait_cell xg wg K c .bar trivial 3 (wpE_semWait_eq 𝒱₀ (c : Thread nD τ) none Set.univ) (mayWait_bar c)) $$ [Ho Hc Ha]
  · isplitr; · iexact HR
    isplitr; · iexact Hl
    isplitl [Ho]; · iexact Ho
    isplitl [Hc] <;> iassumption
  iintro ⟨Ho, Hz, Hp⟩
  ihave Hp' := (Entails.of_eq (rest_bar xg wg c)) $$ Hp
  rw [pay_bar, pay_bar]
  icases Hp' with ⟨H0, H1⟩
  iapply Hk
  isplitl [Ho]; · iexact Ho
  isplitl [Hz]; · iexact Hz
  isplitl [H0]; · iexact H0
  iexact H1

theorem hz : (![0, 0] : Fin 2 → ℕ) = fun _ => 0 := by funext a; fin_cases a <;> rfl

theorem copyIn_rule (c : Dev nD) {α : Type} (kt : PUnit → P (F := F) α) (Q : α → sProp 𝕄) :
    iprop(buf c cc0_stg0_0 (xg c) ∗ buf c cc0_stg1_0 (wg c) ∗ bufE c cc0_scratch0 ∗ bufE c cc0_scratch1)
      ⊢ iprop((buf c cc0_stg0_0 (xg c) ∗ buf c cc0_stg1_0 (wg c) ∗ buf c cc0_scratch0 (xs xg c) ∗ buf c cc0_scratch1 (ws wg c) -∗ WP c (kt ⟨⟩) Q)
          -∗ WP c (copyIn >>= kt) Q) := by
  simp only [copyIn, Prog.lift, Prog.bind_op, Prog.bind_ret, Prog.pure_eq_ret, Prog.bind_assoc]
  iintro ⟨Hx, Hw, ⟨%fx, Hxs⟩, ⟨%fw, Hws⟩⟩ Hk
  iapply (wp_load 𝒱₀ (c : Thread nD τ) none Set.univ (m := xR) (Finset.subset_univ _)) $$ Hx; iintro Hx
  iapply (wp_load 𝒱₀ (c : Thread nD τ) none Set.univ (m := xB) (Finset.subset_univ _)) $$ Hxs; iintro Hxs
  iapply (wp_store 𝒱₀ (c : Thread nD τ) none Set.univ (m := xB) (r := Rect.unit (s := S4096x512) ![0, 0] S4096x512.size inb_S4096x512_S4096x512_0_0) (Mk := Finset.univ) (Finset.subset_univ _)) $$ Hxs; iintro Hxs
  iapply (wp_load 𝒱₀ (c : Thread nD τ) none Set.univ (m := wR) (Finset.subset_univ _)) $$ Hw; iintro Hw
  iapply (wp_load 𝒱₀ (c : Thread nD τ) none Set.univ (m := wB) (Finset.subset_univ _)) $$ Hws; iintro Hws
  iapply (wp_store 𝒱₀ (c : Thread nD τ) none Set.univ (m := wB) (r := Rect.unit (s := S512x2048) ![0, 0] S512x2048.size inb_S512x2048_S512x2048_0_0) (Mk := Finset.univ) (Finset.subset_univ _)) $$ Hws; iintro Hws
  have ex : ∀ w, (xB.access (Rect.unit (s := S4096x512) ![0, 0] S4096x512.size inb_S4096x512_S4096x512_0_0)).write (Elt F) fx w Finset.univ = w :=
    fun w => Memref.write_access_unit_zero_univ (Elt F) cc0_scratch0 hz _ fx w
  have ew : ∀ w, (wB.access (Rect.unit (s := S512x2048) ![0, 0] S512x2048.size inb_S512x2048_S512x2048_0_0)).write (Elt F) fw w Finset.univ = w :=
    fun w => Memref.write_access_unit_zero_univ (Elt F) cc0_scratch1 hz _ fw w
  rw [ex, ew]
  iapply Hk
  isplitl [Hx]; · iexact Hx
  isplitl [Hw]; · iexact Hw
  isplitl [Hxs]
  · iapply (Entails.of_eq (congrArg (buf c cc0_scratch0) (congrArg k0_pay1 (Memref.readAt_unit_zero (Elt F) cc0_stg0_0 hz _ (xg c))))); iexact Hxs
  · iapply (Entails.of_eq (congrArg (buf c cc0_scratch1) (congrArg k0_pay2 (Memref.readAt_unit_zero (Elt F) cc0_stg1_0 hz _ (wg c))))); iexact Hws

/-! ## Sends and waits of the two rings -/

theorem send_rule (c : Dev nD) (d : Bool) (h : Fin 7) (s : Fin 4) {α : Type} (kt : PUnit → P (F := F) α) (Q : α → sProp 𝕄) :
    iprop(records xg wg K ∗ pcW c d (srcSlot h) s (sent xg wg h.val c d s) ∗ need c d h s ∗ slOut c d h.val s ∗ ow' c (rank (.land d h s)))
      ⊢ iprop((crd c (.send d h s) ∗ ow' c (rank (.land d h s) + 1) -∗ WP c (kt ⟨⟩) Q) -∗ WP c (send c d h s >>= kt) Q) := by
  simp only [send, Prog.lift, Prog.bind_op, Prog.bind_ret]
  unfold need pcE
  iintro ⟨#HR, Hs, ⟨⟨%fd, Hd⟩, Hts, Htl⟩, Hsl, Ho⟩ Hk
  unfold pcW
  icases Hs with ⟨%fs, %hfs, Hs⟩
  have hr0 : rank (.land d h s) ≠ 0 := by simp only [rank]; omega
  iapply (send_cell xg wg K c (toDev c d) (toDev c d) rfl (.land d h s) (.src d h s) rfl rfl _ rfl hr0 rfl rfl trivial trivial rfl rfl
    (sS := .dma (semOf (sendS d) h s)) (sV := .dma (semOf (recvS d) h s)) (src := piece d (srcSlot h) s) (dst := piece d (dstSlot h) s) rfl rfl
    (q := fullShare) (fs := fs) (fd := fd) (X := slOut c d h.val s) NP (by cases d <;> rfl) rfl rfl
    (by show _ ⊢ pcE c d (srcSlot h) s; unfold pcE; iintro H; iexists fs; iexact H)
    (by
      show _ ⊢ iprop(pcW (toDev c d) d (dstSlot h) s (landed xg wg h (toDev c d) d s) ∗ slIn (toDev c d) d h.val s)
      unfold pcW landed
      rw [slIn_toDev, toDev_toDev]
      iintro ⟨H, Hx⟩
      isplitl [H]
      · iexists ((piece d (dstSlot h) s).view.write (Elt F) fd ((piece d (srcSlot h) s).view.read (Elt F) fs) Finset.univ)
        isplitr
        · ipureintro; exact (View.read_write_univ _ _).trans hfs
        · iexact H
      · iexact Hx)) $$ [Hs Hd Hsl Ho Hts Htl]
  · isplitr; · iexact HR
    isplitl [Hs]; · iexact Hs
    isplitl [Hd Hsl]
    · isplitl [Hd] <;> iassumption
    isplitl [Ho]; · iexact Ho
    isplitl [Hts] <;> iassumption
  iintro ⟨Hc, Ho⟩
  iapply Hk
  isplitl [Hc]; · iexact Hc
  iexact Ho

theorem waitRecv_rule (c : Dev nD) (d : Bool) (h : Fin 7) (s : Fin 4) (n : ℕ) (hn : ∀ j, n ≤ rank j → h.val + 2 < lvKey (payKey c j))
    {α : Type} (kt : PUnit → P (F := F) α) (Q : α → sProp 𝕄) :
    iprop(records xg wg K ∗ levAts L lv ∗ ow' c n ∗ due c (.recv d h s))
      ⊢ iprop((ow' c n ∗ zero c (.recv d h s) ∗ pcW c d (dstSlot h) s (landed xg wg h c d s) ∗ slIn c d h.val s -∗ WP c (kt ⟨⟩) Q)
          -∗ WP c (waitRecv d h s >>= kt) Q) := by
  simp only [waitRecv, Prog.lift, Prog.bind_op, Prog.bind_ret]
  unfold due
  iintro ⟨#HR, #Hl, Ho, Hc, Ha⟩ Hk
  iapply (wait_cell xg wg K c (.recv d h s) trivial n
    (fun Kt => (wpE_waitDma2_eq 𝒱₀ (c : Thread nD τ) none Set.univ Kt).trans (by show _ = waitSpec _ _ _ (1 * NP) _; rw [Nat.one_mul]; cases d <;> rfl))
    (mayWait_of c _ n (h.val + 2) (by rw [lv_cell]; exact Nat.le_refl _) hn)) $$ [Ho Hc Ha]
  · isplitr; · iexact HR
    isplitr; · iexact Hl
    isplitl [Ho]; · iexact Ho
    isplitl [Hc] <;> iassumption
  iintro ⟨Ho, Hz, Hp⟩
  ihave Hp' := (Entails.of_eq (rest_cell xg wg c (.recv d h s) trivial rfl)) $$ Hp
  iapply Hk
  isplitl [Ho]; · iexact Ho
  isplitl [Hz]; · iexact Hz
  unfold pay; iexact Hp'

theorem waitSend_rule (c : Dev nD) (d : Bool) (h : Fin 7) (s : Fin 4) {α : Type} (kt : PUnit → P (F := F) α) (Q : α → sProp 𝕄) :
    iprop(records xg wg K ∗ levAts L lv ∗ ow' c 66 ∗ due c (.send d h s))
      ⊢ iprop((ow' c 66 ∗ zero c (.send d h s) ∗ pcE c d (srcSlot h) s -∗ WP c (kt ⟨⟩) Q) -∗ WP c (waitSend d h s >>= kt) Q) := by
  simp only [waitSend, Prog.lift, Prog.bind_op, Prog.bind_ret]
  unfold due
  iintro ⟨#HR, #Hl, Ho, Hc, Ha⟩ Hk
  iapply (wait_cell xg wg K c (.send d h s) trivial 66
    (fun Kt => (wpE_waitDma2_eq 𝒱₀ (c : Thread nD τ) none Set.univ Kt).trans (by show _ = waitSpec _ _ _ (1 * NP) _; rw [Nat.one_mul]; cases d <;> rfl))
    (by rw [owedFrom_end, MayWait_zero]; iintro -; iempintro)) $$ [Ho Hc Ha]
  · isplitr; · iexact HR
    isplitr; · iexact Hl
    isplitl [Ho]; · iexact Ho
    isplitl [Hc] <;> iassumption
  iintro ⟨Ho, Hz, Hp⟩
  ihave Hp' := (Entails.of_eq (rest_cell xg wg c (.send d h s) trivial rfl)) $$ Hp
  iapply Hk
  isplitl [Ho]; · iexact Ho
  isplitl [Hz]; · iexact Hz
  unfold pay; iexact Hp'

theorem putP_rule (c : Dev nD) (d : Bool) (j : Fin 8) (s : Fin 4) (u v : FVec F S128x512 .f32) {α : Type} (kt : PUnit → P (F := F) α) (Q : α → sProp 𝕄) :
    pcE c d j s ⊢ iprop((pcW c d j s (pack u v) -∗ WP c (kt ⟨⟩) Q) -∗ WP c (putP d j s (packS u v) >>= kt) Q) := by
  simp only [putP, loadP, storeP, Prog.lift, Prog.bind_op, Prog.bind_ret, Prog.bind_assoc]
  unfold pcE pcW
  iintro ⟨%f, H⟩ Hk
  iapply (wp_load_rect 𝒱₀ (c : Thread nD τ) none Set.univ (m := comm d) (r := pieceRect j s) (S := (piece d j s).view.set) (f := f)
    (by rw [piece_set])) $$ H; iintro H
  iapply (wp_store 𝒱₀ (c : Thread nD τ) none Set.univ (m := comm d) (r := pieceRect j s) (Mk := Finset.univ) (S := (piece d j s).view.set) (f := f)
    (by rw [piece_set]; exact subset_rfl)) $$ H; iintro H
  iapply Hk
  iexists _
  isplitr
  · ipureintro; exact read_packed d j s f u v
  · iexact H

theorem open1_rule (c : Dev nD) (d : Bool) (s : Fin 4) (n : ℕ) (hn : n = rank (.land d 0 s)) {α : Type} (kt : PUnit → P (F := F) α) (Q : α → sProp 𝕄) :
    iprop(base xg wg K c n ∗ pcE c d 7 s ∗ need c d 0 s ∗ slOut c d 0 s)
      ⊢ iprop((base xg wg K c (n + 1) ∗ crd c (.send d 0 s) -∗ WP c (kt ⟨⟩) Q) -∗ WP c (open1 c d s >>= kt) Q) := by
  subst hn
  simp only [open1, loadX0, loadW, Prog.lift, Prog.bind_op, Prog.bind_ret, Prog.bind_assoc]
  unfold base
  iintro ⟨⟨#HR, #Hl, Hx, Hw, Ho⟩, Hp, Hn, Hs⟩ Hk
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (putP_rule c d 7 s _ _ _ Q) $$ Hp; iintro Hp
  iapply (send_rule xg wg K c d 0 s _ Q) $$ [Hp Hn Hs Ho]
  · isplitr; · iexact HR
    isplitl [Hp]; · iexact Hp
    isplitl [Hn]; · iexact Hn
    isplitl [Hs]; · iexact Hs
    iexact Ho
  iintro ⟨Hc, Ho⟩
  iapply Hk
  isplitr [Hc]
  · isplitr; · iexact HR
    isplitr; · iexact Hl
    isplitl [Hx]; · iexact Hx
    isplitl [Hw]; · iexact Hw
    iexact Ho
  iexact Hc

/-! ## A hop -/

theorem take_rule (c : Dev nD) (h : Fin 7) (s : Fin 4) (n : ℕ) (hn : ∀ j, n ≤ rank j → h.val + 2 < lvKey (payKey c j))
    {α : Type} (kt : (Fin 4 → FVec F S128x512 .f32) → P (F := F) α) (Q : α → sProp 𝕄) :
    iprop(base xg wg K c n ∗ due c (.recv true h s) ∗ due c (.recv false h s))
      ⊢ iprop((base xg wg K c n ∗ (zero c (.recv true h s) ∗ zero c (.recv false h s))
            ∗ (pcE c true (dstSlot h) s ∗ pcE c false (dstSlot h) s) ∗ slIn c true h.val s ∗ slIn c false h.val s -∗ WP c (kt (tileAt xg wg c h s)) Q)
          -∗ WP c (take c h s >>= kt) Q) := by
  simp only [take, tiles, arrive, loadX, loadW, loadP, Prog.lift, Prog.bind_op, Prog.bind_ret, Prog.bind_assoc, Prog.pure_eq_ret]
  unfold base
  iintro ⟨⟨#HR, #Hl, Hx, Hw, Ho⟩, Hr, Hf⟩ Hk
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (wp_load 𝒱₀ (c : Thread nD τ) none Set.univ (m := xB) (Finset.subset_univ _)) $$ Hx; iintro Hx
  iapply (wp_load 𝒱₀ (c : Thread nD τ) none Set.univ (m := wB) (Finset.subset_univ _)) $$ Hw; iintro Hw
  iapply (waitRecv_rule xg wg K c true h s n hn _ Q) $$ [Ho Hr]
  · isplitr; · iexact HR
    isplitr; · iexact Hl
    isplitl [Ho] <;> iassumption
  iintro ⟨Ho, Hz1, Hp1, Hs1⟩
  iapply (waitRecv_rule xg wg K c false h s n hn _ Q) $$ [Ho Hf]
  · isplitr; · iexact HR
    isplitr; · iexact Hl
    isplitl [Ho] <;> iassumption
  iintro ⟨Ho, Hz0, Hp0, Hs0⟩
  unfold pcW
  icases Hp1 with ⟨%f1, %h1, Hp1⟩
  icases Hp0 with ⟨%f0, %h0, Hp0⟩
  iapply (wp_load_rect 𝒱₀ (c : Thread nD τ) none Set.univ (m := comm true) (r := pieceRect (dstSlot h) s) (S := (piece true (dstSlot h) s).view.set) (f := f1)
    (by rw [piece_set])) $$ Hp1; iintro Hp1
  iapply (wp_load_rect 𝒱₀ (c : Thread nD τ) none Set.univ (m := comm false) (r := pieceRect (dstSlot h) s) (S := (piece false (dstSlot h) s).view.set) (f := f0)
    (by rw [piece_set])) $$ Hp0; iintro Hp0
  have e1 : flat (F := F) (((comm true).access (pieceRect (dstSlot h) s)).read (Elt F) f1) = landed xg wg h c true s := h1
  have e0 : flat (F := F) (((comm false).access (pieceRect (dstSlot h) s)).read (Elt F) f0) = landed xg wg h c false s := h0
  simp only [e1, e0]
  iapply Hk
  isplitl [Hx Hw Ho]
  · isplitr; · iexact HR
    isplitr; · iexact Hl
    isplitl [Hx]; · iexact Hx
    isplitl [Hw]; · iexact Hw
    iexact Ho
  isplitl [Hz1 Hz0]; · isplitl [Hz1] <;> iassumption
  isplitl [Hp1 Hp0]
  · unfold pcE
    isplitl [Hp1]
    · iexists f1; iexact Hp1
    · iexists f0; iexact Hp0
  isplitl [Hs1] <;> iassumption

/-- What hop `h + 1` of rows `s` takes and leaves. -/
def hopIn (c : Dev nD) (h : Fin 6) (s : Fin 4) : sProp 𝕄 :=
  iprop((due c (.recv true h.castSucc s) ∗ due c (.recv false h.castSucc s)) ∗ need c true h.succ s ∗ need c false h.succ s)
def hopOut (c : Dev nD) (h : Fin 6) (s : Fin 4) : sProp 𝕄 :=
  iprop((zero c (.recv true h.castSucc s) ∗ zero c (.recv false h.castSucc s)) ∗ (slKeep c true h.val s ∗ slKeep c false h.val s)
    ∗ crd c (.send true h.succ s) ∗ crd c (.send false h.succ s))

theorem src_succ (h : Fin 6) : dstSlot h.castSucc = srcSlot h.succ := by revert h; decide
theorem ofNat_castSucc (h : Fin 6) : Fin.ofNat 7 h.val = h.castSucc := by revert h; decide
theorem sent_succ_true (c : Dev nD) (h : Fin 6) (s : Fin 4) :
    pack (tileAt xg wg c h.castSucc s 0) (tileAt xg wg c h.castSucc s 1) = sent xg wg h.succ.val c true s := by
  show _ = pack (sumA xg wg _ c true (Fin.ofNat 7 h.val) s) (sumB xg wg _ c true (Fin.ofNat 7 h.val) s)
  rw [ofNat_castSucc]; rfl
theorem sent_succ_false (c : Dev nD) (h : Fin 6) (s : Fin 4) :
    pack (tileAt xg wg c h.castSucc s 2) (tileAt xg wg c h.castSucc s 3) = sent xg wg h.succ.val c false s := by
  show _ = pack (sumA xg wg _ c false (Fin.ofNat 7 h.val) s) (sumB xg wg _ c false (Fin.ofNat 7 h.val) s)
  rw [ofNat_castSucc]; rfl

theorem hop_rule (c : Dev nD) (h : Fin 6) (s : Fin 4) (n : ℕ) (hn : n = 11 + 8 * h.val + 2 * s.val) {α : Type} (kt : PUnit → P (F := F) α) (Q : α → sProp 𝕄) :
    iprop(base xg wg K c n ∗ hopIn c h s)
      ⊢ iprop((base xg wg K c (n + 2) ∗ hopOut c h s -∗ WP c (kt ⟨⟩) Q) -∗ WP c (hop c h s >>= kt) Q) := by
  have r1 : n = rank (.land true h.succ s) := by simp only [rank, Fin.val_succ, if_true]; omega
  have r0 : n + 1 = rank (.land false h.succ s) := by simp only [rank, Fin.val_succ]; simp; omega
  have hlv : ∀ j, n ≤ rank j → h.castSucc.val + 2 < lvKey (payKey c j) := by
    intro j hj
    subst hn
    cases j with
    | bar b => cases b <;> simp [rank] at hj <;> omega
    | land d h' s' =>
      have := s'.isLt
      simp only [rank] at hj; simp only [payKey, lvKey, Fin.val_castSucc]; split at hj <;> omega
    | src d h' s' => simp only [rank] at hj; omega
    | axl o => simp only [payKey, lvKey, Fin.val_castSucc]; omega
    | axo o => simp only [rank] at hj; omega
  simp only [hop, Prog.bind_assoc]
  unfold hopIn hopOut
  iintro ⟨Hb, ⟨Hr, Hf⟩, Hn1, Hn0⟩ Hk
  iapply (take_rule xg wg K c h.castSucc s n hlv _ Q) $$ [Hb Hr Hf]
  · isplitl [Hb]; · iexact Hb
    isplitl [Hr] <;> iassumption
  iintro ⟨Hb, Hz, ⟨Hp1, Hp0⟩, Hs1, Hs0⟩
  iapply (putP_rule c true (dstSlot h.castSucc) s _ _ _ Q) $$ Hp1; iintro Hp1
  iapply (putP_rule c false (dstSlot h.castSucc) s _ _ _ Q) $$ Hp0; iintro Hp0
  rw [sent_succ_true, sent_succ_false, src_succ]
  simp only [Fin.val_castSucc]
  ihave Hs1' := (slIn_split c true h.val (by omega) s) $$ Hs1
  icases Hs1' with ⟨Hk1, Hs1⟩
  ihave Hs0' := (slIn_split c false h.val (by omega) s) $$ Hs0
  icases Hs0' with ⟨Hk0, Hs0⟩
  unfold base
  icases Hb with ⟨#HR, #Hl, Hx, Hw, Ho⟩
  iapply (send_rule xg wg K c true h.succ s _ Q) $$ [Hp1 Hn1 Hs1 Ho]
  · isplitr; · iexact HR
    isplitl [Hp1]; · iexact Hp1
    isplitl [Hn1]; · iexact Hn1
    isplitl [Hs1]; · iexact Hs1
    rw [← r1]; iexact Ho
  iintro ⟨Hc1, Ho⟩
  rw [← r1]
  iapply (send_rule xg wg K c false h.succ s _ Q) $$ [Hp0 Hn0 Hs0 Ho]
  · isplitr; · iexact HR
    isplitl [Hp0]; · iexact Hp0
    isplitl [Hn0]; · iexact Hn0
    isplitl [Hs0]; · iexact Hs0
    rw [← r0]; iexact Ho
  iintro ⟨Hc0, Ho⟩
  rw [← r0]
  iapply Hk
  isplitl [Hx Hw Ho]
  · isplitr; · iexact HR
    isplitr; · iexact Hl
    isplitl [Hx]; · iexact Hx
    isplitl [Hw]; · iexact Hw
    iexact Ho
  isplitl [Hz]; · iexact Hz
  isplitl [Hk1 Hk0]; · isplitl [Hk1] <;> iassumption
  isplitl [Hc1] <;> iassumption

end Cert.KernelIdeal.Ring
end
-- ==== Proof.KernelIdeal.Finish.lean ====
/-
  The buffers cut into the pieces the protocol moves and put together again; the exchange of the largest magnitudes and
  the result tiles.
-/
module

public import proofs.«01_k».proof.Proof.KernelIdeal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Cutting the buffers -/

theorem big_mono {B : Type} {s : Finset B} {Φ Ψ : B → sProp 𝕄} (h : ∀ i ∈ s, Φ i ⊢ Ψ i) : bigSep s Φ ⊢ bigSep s Ψ := bigSep_mono h

theorem slots_disjoint (t t' : Dev nD) (h : t ≠ t') : Disjoint (slotRect t).set (slotRect t').set :=
  Ring.lead_disjoint (s := S8x8x128) 0 1 (fun t : Fin 8 => ![t.val, 0, 0]) S1x8x128.size slot_inb (fun b => by simp) rfl t t' h
theorem slots_cover : Finset.univ.biUnion (fun t : Dev nD => (slotRect t).set) = Finset.univ :=
  Ring.lead_cover (s := S8x8x128) (NB := 8) 0 1 (fun t : Fin 8 => ![t.val, 0, 0]) S1x8x128.size slot_inb (fun b => by simp)
    (fun b a ha => by fin_cases a <;> first | exact absurd rfl ha | rfl) rfl (fun a ha => by fin_cases a <;> first | exact absurd rfl ha | rfl) rfl
theorem slot_set' (t : Dev nD) : (slotM t).view.set = (slotRect t).set := (slot_set t).trans (View.set_slice_whole cc0_scratch4 (slotRect t))

theorem piece_disjoint (j j' : Fin 8 × Fin 4) (h : j ≠ j') : Disjoint (pieceRect j.1 j.2).set (pieceRect j'.1 j'.2).set := by
  rw [Finset.disjoint_left]
  intro i hi hi'
  have h0 := (Rect.mem_set_unit.mp hi) 0
  have h1 := (Rect.mem_set_unit.mp hi) 1
  have g0 := (Rect.mem_set_unit.mp hi') 0
  have g1 := (Rect.mem_set_unit.mp hi') 1
  simp at h0 h1 g0 g1
  apply h
  ext <;> omega
theorem piece_cover : Finset.univ.biUnion (fun j : Fin 8 × Fin 4 => (pieceRect j.1 j.2).set) = Finset.univ := by
  ext i
  simp only [Finset.mem_biUnion, Finset.mem_univ, true_and, iff_true]
  have h0 : (i 0).val < 8 := (i 0).isLt
  have h1 : (i 1).val < 512 := (i 1).isLt
  have h2 : (i 2).val < 512 := (i 2).isLt
  refine ⟨(⟨(i 0).val, h0⟩, ⟨(i 1).val / 128, by omega⟩), Rect.mem_set_unit.mpr fun a => ?_⟩
  fin_cases a <;> simp <;> omega

/-- A result tile's elements. -/
abbrev outRect (s q : Fin 4) : Rect S512x2048 := Rect.unit (s := S512x2048) ![128 * s.val, 512 * q.val] S128x512.size (offO_inb s q)
theorem out_disjoint (j j' : Fin 4 × Fin 4) (h : j ≠ j') : Disjoint (outRect j.2 j.1).set (outRect j'.2 j'.1).set := by
  rw [Finset.disjoint_left]
  intro i hi hi'
  have h0 := (Rect.mem_set_unit.mp hi) 0
  have h1 := (Rect.mem_set_unit.mp hi) 1
  have g0 := (Rect.mem_set_unit.mp hi') 0
  have g1 := (Rect.mem_set_unit.mp hi') 1
  simp at h0 h1 g0 g1
  apply h
  ext <;> omega
theorem out_cover : Finset.univ.biUnion (fun j : Fin 4 × Fin 4 => (outRect j.2 j.1).set) = Finset.univ := by
  ext i
  simp only [Finset.mem_biUnion, Finset.mem_univ, true_and, iff_true]
  have h0 : (i 0).val < 512 := (i 0).isLt
  have h1 : (i 1).val < 2048 := (i 1).isLt
  refine ⟨(⟨(i 1).val / 512, by omega⟩, ⟨(i 0).val / 128, by omega⟩), Rect.mem_set_unit.mpr fun a => ?_⟩
  fin_cases a <;> simp <;> omega

theorem table_split (c : Dev nD) (q : PosShare TreeShare) (T : Vec F S8x8x128 .f32) :
    ((((c : Thread nD τ).loc cc0_scratch4) ↦{q} (T : Buf (Elt F) ((c : Thread nD τ).loc cc0_scratch4))) : sProp 𝕄) = bigSep Finset.univ fun t => slT T c t q := by
  rw [Ring.pointsTo_blocks (ℓ := (c : Thread nD τ).loc cc0_scratch4) (fun t : Dev nD => (slotRect t).set) slots_disjoint slots_cover]
  refine bigSep_congr fun t _ => ?_
  unfold slT; rw [slot_set']

theorem table_cut (c : Dev nD) : (bufE c cc0_scratch4 : sProp 𝕄) ⊢ bigSep Finset.univ fun t => slE c t := by
  iintro ⟨%f, H⟩
  ihave H' := (Entails.of_eq (table_split c fullShare f)) $$ H
  iapply (big_mono (s := Finset.univ) (Φ := fun t : Dev nD => slT f c t fullShare) (Ψ := fun t => slE c t) fun t _ => by
    unfold slT slE; iintro H; iexists _; iexact H)
  iexact H'

/-- The buffer one direction's words travel in. -/
abbrev commRef : Bool → Ref sig .tc
  | true => cc0_scratch2
  | false => cc0_scratch3

theorem comm_set_true (j : Fin 8) (s : Fin 4) : (piece true j s).view.set = (pieceRect j s).set := (piece_set true j s).trans (View.set_slice_whole cc0_scratch2 (pieceRect j s))
theorem comm_set_false (j : Fin 8) (s : Fin 4) : (piece false j s).view.set = (pieceRect j s).set := (piece_set false j s).trans (View.set_slice_whole cc0_scratch3 (pieceRect j s))

theorem pcE_true (c : Dev nD) (j : Fin 8) (s : Fin 4) : (pcE c true j s : sProp 𝕄)
    = iprop(∃ f : Buf (Elt F) ((c : Thread nD τ).loc cc0_scratch2), ((c : Thread nD τ).loc cc0_scratch2) ↦[(pieceRect j s).set]{fullShare} f) := by
  unfold pcE; rw [comm_set_true]; rfl
theorem pcE_false (c : Dev nD) (j : Fin 8) (s : Fin 4) : (pcE c false j s : sProp 𝕄)
    = iprop(∃ f : Buf (Elt F) ((c : Thread nD τ).loc cc0_scratch3), ((c : Thread nD τ).loc cc0_scratch3) ↦[(pieceRect j s).set]{fullShare} f) := by
  unfold pcE; rw [comm_set_false]; rfl

theorem cut_pieces {B : Type} [Fintype B] [DecidableEq B] (ℓ : Loc nD τ sig) (P : B → Finset (Idx ℓ)) (hd : ∀ b b', b ≠ b' → Disjoint (P b) (P b')) (hc : Finset.univ.biUnion P = Finset.univ) :
    (iprop(∃ f : Buf (Elt F) ℓ, ℓ ↦{fullShare} f) : sProp 𝕄) ⊢ bigSep Finset.univ fun j => iprop(∃ f : Buf (Elt F) ℓ, ℓ ↦[P j]{fullShare} f) := by
  iintro ⟨%f, H⟩
  ihave H' := (Entails.of_eq (Ring.pointsTo_blocks P hd hc f)) $$ H
  iapply (big_mono (s := Finset.univ) (Φ := fun j => iprop(ℓ ↦[P j]{fullShare} f)) (Ψ := fun j => iprop(∃ f : Buf (Elt F) ℓ, ℓ ↦[P j]{fullShare} f)) fun j _ => by
    iintro H; iexists f; iexact H)
  iexact H'

theorem comm_cut (c : Dev nD) (d : Bool) : (bufE c (commRef d) : sProp 𝕄) ⊢ bigSep Finset.univ fun j : Fin 8 × Fin 4 => pcE c d j.1 j.2 := by
  cases d
  · have h := cut_pieces (F := F) ((c : Thread nD τ).loc cc0_scratch3) (fun j : Fin 8 × Fin 4 => (pieceRect j.1 j.2).set) piece_disjoint piece_cover
    simp only [pcE_false]; exact h
  · have h := cut_pieces (F := F) ((c : Thread nD τ).loc cc0_scratch2) (fun j : Fin 8 × Fin 4 => (pieceRect j.1 j.2).set) piece_disjoint piece_cover
    simp only [pcE_true]; exact h

theorem comm_join (c : Dev nD) (d : Bool) : (bigSep Finset.univ fun j : Fin 8 × Fin 4 => pcE c d j.1 j.2 : sProp 𝕄) ⊢ bufE c (commRef d) := by
  cases d
  · simp only [pcE_false]
    exact Ring.pointsTo_blocks_join_exists (ℓ := (c : Thread nD τ).loc cc0_scratch3) (fun j : Fin 8 × Fin 4 => (pieceRect j.1 j.2).set) piece_disjoint piece_cover
      (fun _ => (0 : BitVec 32))
  · simp only [pcE_true]
    exact Ring.pointsTo_blocks_join_exists (ℓ := (c : Thread nD τ).loc cc0_scratch2) (fun j : Fin 8 × Fin 4 => (pieceRect j.1 j.2).set) piece_disjoint piece_cover
      (fun _ => (0 : BitVec 32))

/-! ## The table of magnitudes -/

section

variable (xg : Dev nD → Vec F S4096x512 .bf16) (wg : Dev nD → Vec F S512x2048 .bf16) (K : Dev nD × Key → ℕ)

theorem table_read (c : Dev nD) : (aB.access (slotRect c)).read (Elt F) (table xg wg) = blockMax (yAt xg wg c) := by
  funext x
  have h0 : (slotRect c).emb x 0 = c := by
    apply Fin.ext
    have := (x 0).isLt
    change (x 0).val < 1 at this
    simp [Rect.emb, Rect.unit]; omega
  show table xg wg ((slotRect c).emb x) = _
  unfold table
  rw [h0]
  congr 1
  funext a
  fin_cases a
  · apply Fin.ext; have := (x 0).isLt; change (x 0).val < 1 at this; show 0 = (x 0).val; omega
  · apply Fin.ext; simp [Rect.emb, Rect.unit]
  · apply Fin.ext; simp [Rect.emb, Rect.unit]

theorem axPut_rule (c : Dev nD) {α : Type} (kt : PUnit → P (F := F) α) (Q : α → sProp 𝕄) :
    slE c c ⊢ iprop((slT (table xg wg) c c fullShare -∗ WP c (kt ⟨⟩) Q) -∗ WP c (axPut c (blockMax (yAt xg wg c)) >>= kt) Q) := by
  have key : ∀ (o : Fin 3 → Nat) (hb : ∀ a, o a + S1x8x128.size a ≤ S8x8x128.size a) (e : o = ![c.val, 0, 0]),
      (aB.access (Rect.unit (s := S8x8x128) o S1x8x128.size hb)).set = (slotM c).view.set ∧
      ∀ f : Buf (Elt F) ((slotM c).view.loc (c : Thread nD τ)),
        ((((slotM c).view.loc (c : Thread nD τ)) ↦[(slotM c).view.set]{fullShare} ((aB.access (Rect.unit (s := S8x8x128) o S1x8x128.size hb)).write (Elt F) f (blockMax (yAt xg wg c)) Finset.univ)) : sProp 𝕄)
          = slT (table xg wg) c c fullShare := by
    intro o hb e; subst e
    refine ⟨(slot_set c).symm, fun f => ?_⟩
    unfold slT
    rw [slot_set]
    exact pts_write_eq (c := (c : Thread nD τ)) (aB.access (slotRect c)) fullShare f _ _ (table_read xg wg c)
  obtain ⟨hs, hw⟩ := key _ (k0_off5_inb c) (k0_off5_eq c)
  simp only [axPut, Prog.lift, Prog.bind_op, Prog.bind_ret, Prog.bind_assoc]
  unfold slE
  iintro ⟨%f, H⟩ Hk
  iapply (wp_load_rect 𝒱₀ (c : Thread nD τ) none Set.univ (m := aB) (r := Rect.unit (s := S8x8x128) (k0_off5 c) S1x8x128.size (k0_off5_inb c)) (S := (slotM c).view.set) (f := f)
    (by rw [hs])) $$ H; iintro H
  iapply (wp_store 𝒱₀ (c : Thread nD τ) none Set.univ (m := aB) (r := Rect.unit (s := S8x8x128) (k0_off5 c) S1x8x128.size (k0_off5_inb c)) (Mk := Finset.univ) (S := (slotM c).view.set) (f := f)
    (by rw [View.setOn_univ, hs])) $$ H; iintro H
  iapply Hk
  iapply (Entails.of_eq (hw f)); iexact H

/-- A magnitude sent on, from a memref that is the device's own slot and to the semaphore that is its own. -/
theorem axSend_at (c : Dev nD) (o : Fin 7) (M : Memref sig .tc .vmem S8x128 .f32) (hM : M = slotM c) (q : DmaSem sig) (hq : SemLoc.dma q = csem (.axr c))
    {hsc : (M : Memref sig (Dev.tc (axDev c o) : Thread nD τ).2.kind .vmem S8x128 .f32).view.ref.isScScratch = false}
    {h1 h2 : M.view.WordExact} {h3 : DmaTarget.Typed .vmem (.dma q) (.remote (Dev.tc (axDev c o) : Thread nD τ) M (.dma (axSendSem o)) hsc)}
    {α : Type} (kt : PUnit → P (F := F) α) (Q : α → sProp 𝕄) :
    iprop(records xg wg K ∗ slT (table xg wg) c c (ShareLeaves.leaf 3 fullShare o.succ) ∗ slE (axDev c o) c ∗ ow' c (59 + o.val) ∗ tok c (.axo o) ∗ tok c (.axl o))
      ⊢ iprop((crd c (.axs o.succ) ∗ ow' c (59 + o.val + 1) -∗ WP c (kt ⟨⟩) Q)
        -∗ WP c (.op (.enqueueDma M (.remote (Dev.tc (axDev c o) : Thread nD τ) M (.dma (axSendSem o)) hsc) (.dma q) h1 h2 h3) kt) Q) := by
  subst hM
  iintro ⟨#HR, Hs, Hd, Ho, Hts, Htl⟩ Hk
  unfold slE
  icases Hd with ⟨%fd, Hd⟩
  iapply (send_cell xg wg K c (axDev c o) (axDev c o) rfl (.axl o) (.axo o) rfl rfl (59 + o.val) rfl (by omega) rfl rfl (axDev_ne c o) (Fin.succ_ne_zero o) rfl rfl
    (sS := .dma (axSendSem o)) (sV := .dma q) (src := slotM c) (dst := slotM c) rfl hq
    (q := ShareLeaves.leaf 3 fullShare o.succ) (fs := table xg wg) (fd := fd) (X := iprop(emp)) NA rfl rfl rfl
    (by show _ ⊢ slT (table xg wg) c c (ShareLeaves.leaf 3 fullShare o.succ); unfold slT; exact Entails.refl _)
    (by
      show _ ⊢ slT (table xg wg) (axDev c o) c fullShare
      unfold slT
      iintro ⟨H, -⟩
      iapply (Entails.of_eq (pts_write_eq (c := (axDev c o : Thread nD τ)) (slotM c).view fullShare fd (table xg wg) _ rfl)); iexact H)) $$ [Hs Hd Ho Hts Htl]
  · isplitr; · iexact HR
    isplitl [Hs]; · unfold slT; iexact Hs
    isplitl [Hd]
    · isplitl; · iexact Hd
      iempintro
    isplitl [Ho]; · iexact Ho
    isplitl [Hts] <;> iassumption
  iintro ⟨Hc, Ho⟩
  iapply Hk
  isplitl [Hc]; · iexact Hc
  iexact Ho

theorem axSend_rule (c : Dev nD) (o : Fin 7) {α : Type} (kt : PUnit → P (F := F) α) (Q : α → sProp 𝕄) :
    iprop((records xg wg K ∗ ow' c (59 + o.val)) ∗ slT (table xg wg) c c (ShareLeaves.leaf 3 fullShare o.succ) ∗ slE (axDev c o) c ∗ tok c (.axo o) ∗ tok c (.axl o))
      ⊢ iprop(((records xg wg K ∗ ow' c (59 + (o.val + 1))) ∗ crd c (.axs o.succ) -∗ WP c (kt ⟨⟩) Q) -∗ WP c (axSend c o >>= kt) Q) := by
  simp only [axSend, Prog.lift, Prog.bind_op, Prog.bind_ret]
  iintro ⟨⟨#HR, Ho⟩, Hs, Hd, Hts, Htl⟩ Hk
  iapply (axSend_at xg wg K c o (mySlot c) (mySlot_eq c) (mySem c) (congrArg SemLoc.dma (mySem_eq c)) _ Q) $$ [Ho Hs Hd Hts Htl]
  · isplitr; · iexact HR
    isplitl [Hs]; · iexact Hs
    isplitl [Hd]; · iexact Hd
    isplitl [Ho]; · iexact Ho
    isplitl [Hts] <;> iassumption
  iintro ⟨Hc, Ho⟩
  iapply Hk
  isplitl [Ho]
  · isplitr; · iexact HR
    iexact Ho
  iexact Hc

/-- What the waits of the exchange keep. -/
def rest (c : Dev nD) : sProp 𝕄 := iprop(records xg wg K ∗ levAts L lv ∗ ow' c 66)

theorem axWait_rule (c : Dev nD) (o : Fin 7) {α : Type} (kt : PUnit → P (F := F) α) (Q : α → sProp 𝕄) :
    iprop(rest xg wg K c ∗ due c (.axr (farDev c o)))
      ⊢ iprop((rest xg wg K c ∗ zero c (.axr (farDev c o)) ∗ slT (table xg wg) c (farDev c o) fullShare -∗ WP c (kt ⟨⟩) Q) -∗ WP c (axWait c o >>= kt) Q) := by
  simp only [axWait, Prog.lift, Prog.bind_op, Prog.bind_ret]
  unfold due rest
  iintro ⟨⟨#HR, #Hl, Ho⟩, Hc, Ha⟩ Hk
  iapply (wait_cell xg wg K c (.axr (farDev c o)) (farDev_ne c o) 66
    (fun Kt => (wpE_waitDma2_eq 𝒱₀ (c : Thread nD τ) none Set.univ Kt).trans (by
      show waitSpec _ _ _ NA _ = waitSpec _ _ (.dma (axOf cc0_scratch10 ⟨(farDev c o).val, (farDev c o).isLt⟩)) (1 * NA) _
      rw [Nat.one_mul, farSem_eq]))
    (by rw [owedFrom_end, MayWait_zero]; iintro -; iempintro)) $$ [Ho Hc Ha]
  · isplitr; · iexact HR
    isplitr; · iexact Hl
    isplitl [Ho]; · iexact Ho
    isplitl [Hc] <;> iassumption
  iintro ⟨Ho, Hz, Hp⟩
  ihave Hp' := (Entails.of_eq (rest_cell xg wg c (.axr (farDev c o)) (farDev_ne c o) rfl)) $$ Hp
  iapply Hk
  isplitl [Ho]
  · isplitr; · iexact HR
    isplitr; · iexact Hl
    iexact Ho
  isplitl [Hz]; · iexact Hz
  unfold pay; iexact Hp'

theorem axDone_rule (c : Dev nD) (o : Fin 7) {α : Type} (kt : PUnit → P (F := F) α) (Q : α → sProp 𝕄) :
    iprop(rest xg wg K c ∗ due c (.axs o.succ))
      ⊢ iprop((rest xg wg K c ∗ zero c (.axs o.succ) ∗ slT (table xg wg) c c (ShareLeaves.leaf 3 fullShare o.succ) -∗ WP c (kt ⟨⟩) Q) -∗ WP c (axDone c o >>= kt) Q) := by
  simp only [axDone, Prog.lift, Prog.bind_op, Prog.bind_ret]
  unfold due rest
  iintro ⟨⟨#HR, #Hl, Ho⟩, Hc, Ha⟩ Hk
  iapply (wait_cell xg wg K c (.axs o.succ) (Fin.succ_ne_zero o) 66
    (fun Kt => (wpE_waitDma2_eq 𝒱₀ (c : Thread nD τ) none Set.univ Kt).trans (by
      show waitSpec _ _ _ NA _ = waitSpec _ _ (.dma (axSendSem o)) (1 * NA) _
      rw [Nat.one_mul]))
    (by rw [owedFrom_end, MayWait_zero]; iintro -; iempintro)) $$ [Ho Hc Ha]
  · isplitr; · iexact HR
    isplitr; · iexact Hl
    isplitl [Ho]; · iexact Ho
    isplitl [Hc] <;> iassumption
  iintro ⟨Ho, Hz, Hp⟩
  ihave Hp' := (Entails.of_eq (rest_cell xg wg c (.axs o.succ) (Fin.succ_ne_zero o) rfl)) $$ Hp
  iapply Hk
  isplitl [Ho]
  · isplitr; · iexact HR
    isplitr; · iexact Hl
    iexact Ho
  isplitl [Hz]; · iexact Hz
  unfold pay; iexact Hp'

/-! ## The results -/

/-- The result block of device `c`. -/
def outAt (c : Dev nD) : (cc0_stg2_0 : Ref sig .tc).ty.Contents (Elt F) := fun i : S512x2048.Idx =>
  quant (gmax xg wg) (yAt xg wg c ⟨(i 0).val / 128, Nat.div_lt_of_lt_mul (i 0).isLt⟩ ⟨(i 1).val / 512, Nat.div_lt_of_lt_mul (i 1).isLt⟩)
    (fun | 0 => ⟨(i 0).val % 128, Nat.mod_lt _ (by decide)⟩ | 1 => ⟨(i 1).val % 512, Nat.mod_lt _ (by decide)⟩)

theorem out_read (c : Dev nD) (s q : Fin 4) : (oR.access (outRect s q)).read (Elt F) (outAt xg wg c) = quant (gmax xg wg) (yAt xg wg c s q) := by
  funext x
  have x0 : (x 0).val < 128 := (x 0).isLt
  have x1 : (x 1).val < 512 := (x 1).isLt
  have e0 : ((outRect s q).emb x 0).val = 128 * s.val + (x 0).val := by simp [Rect.emb, Rect.unit]
  have e1 : ((outRect s q).emb x 1).val = 512 * q.val + (x 1).val := by simp [Rect.emb, Rect.unit]
  show outAt xg wg c ((outRect s q).emb x) = _
  unfold outAt
  have hs : (⟨((outRect s q).emb x 0).val / 128, Nat.div_lt_of_lt_mul ((outRect s q).emb x 0).isLt⟩ : Fin 4) = s := Fin.ext (by show _ / 128 = s.val; omega)
  have hq : (⟨((outRect s q).emb x 1).val / 512, Nat.div_lt_of_lt_mul ((outRect s q).emb x 1).isLt⟩ : Fin 4) = q := Fin.ext (by show _ / 512 = q.val; omega)
  rw [hs, hq]
  congr 1
  funext a
  fin_cases a
  · apply Fin.ext; show _ % 128 = (x 0).val; omega
  · apply Fin.ext; show _ % 512 = (x 1).val; omega

/-- A result tile at some contents, and written. -/
def tlE (c : Dev nD) (q s : Fin 4) : sProp 𝕄 :=
  iprop(∃ f : Buf (Elt F) ((c : Thread nD τ).loc cc0_stg2_0), ((c : Thread nD τ).loc cc0_stg2_0) ↦[(outRect s q).set]{fullShare} f)
def tlW (c : Dev nD) (q s : Fin 4) : sProp 𝕄 :=
  ((c : Thread nD τ).loc cc0_stg2_0) ↦[(outRect s q).set]{fullShare} (outAt xg wg c : Buf (Elt F) ((c : Thread nD τ).loc cc0_stg2_0))

theorem out_cut (c : Dev nD) : (bufE c cc0_stg2_0 : sProp 𝕄) ⊢ bigSep Finset.univ fun q => bigSep Finset.univ fun s => tlE c q s := by
  have h := cut_pieces (F := F) ((c : Thread nD τ).loc cc0_stg2_0) (fun j : Fin 4 × Fin 4 => (outRect j.2 j.1).set) out_disjoint out_cover
  exact h.trans (Entails.of_eq (bigSep_univ_prod (fun j : Fin 4 × Fin 4 => tlE (F := F) c j.1 j.2)))
theorem out_join (c : Dev nD) : (bigSep Finset.univ fun q => bigSep Finset.univ fun s => tlW xg wg c q s : sProp 𝕄) ⊢ buf c cc0_stg2_0 (outAt xg wg c) := by
  refine (Entails.of_eq (bigSep_univ_prod (fun j : Fin 4 × Fin 4 => tlW xg wg c j.1 j.2)).symm).trans ?_
  exact Entails.of_eq (Ring.pointsTo_blocks (ℓ := (c : Thread nD τ).loc cc0_stg2_0) (fun j : Fin 4 × Fin 4 => (outRect j.2 j.1).set) out_disjoint out_cover _).symm

theorem putO_rule (c : Dev nD) (s q : Fin 4) {α : Type} (kt : PUnit → P (F := F) α) (Q : α → sProp 𝕄) :
    tlE c q s ⊢ iprop((tlW xg wg c q s -∗ WP c (kt ⟨⟩) Q) -∗ WP c (putO s q (quant (gmax xg wg) (yAt xg wg c s q)) >>= kt) Q) := by
  have hs : (oR.access (outRect s q)).set = (outRect s q).set := View.set_slice_whole cc0_stg2_0 (outRect s q)
  simp only [putO, Prog.lift, Prog.bind_op, Prog.bind_ret, Prog.bind_assoc]
  unfold tlE
  iintro ⟨%f, H⟩ Hk
  iapply (wp_load_rect 𝒱₀ (c : Thread nD τ) none Set.univ (m := oR) (r := outRect s q) (S := (outRect s q).set) (f := f) (by rw [hs])) $$ H; iintro H
  iapply (wp_store 𝒱₀ (c : Thread nD τ) none Set.univ (m := oR) (r := outRect s q) (Mk := Finset.univ) (S := (outRect s q).set) (f := f)
    (by rw [View.setOn_univ, hs])) $$ H; iintro H
  iapply Hk
  unfold tlW
  have e := pts_write_eq (c := (c : Thread nD τ)) (oR.access (outRect s q)) fullShare f (outAt xg wg c) _ (out_read xg wg c s q)
  rw [hs] at e
  iapply (Entails.of_eq e); iexact H

theorem results_rule (c : Dev nD) {α : Type} (kt : PUnit → P (F := F) α) (Q : α → sProp 𝕄) :
    bufE c cc0_stg2_0 ⊢ iprop((buf c cc0_stg2_0 (outAt xg wg c) -∗ WP c (kt ⟨⟩) Q) -∗ WP c (results (yAt xg wg c) (gmax xg wg) >>= kt) Q) := by
  iintro H Hk
  ihave H' := (out_cut (F := F) c) $$ H
  unfold results
  iapply (four_rule c _ (fun _ => iprop(emp)) (fun q => bigSep Finset.univ fun s => tlE c q s) (fun q => bigSep Finset.univ fun s => tlW xg wg c q s)
    (fun q _ kt Q => four_rule c _ (fun _ => iprop(emp)) (fun s => tlE c q s) (fun s => tlW xg wg c q s)
      (fun s _ kt Q => by
        iintro ⟨-, H⟩ Hk
        iapply (putO_rule xg wg c s q kt Q) $$ H
        iintro H
        iapply Hk
        isplitr; · iempintro
        iexact H) kt Q) kt Q) $$ [H']
  · isplitr; · iempintro
    iexact H'
  iintro ⟨-, H⟩
  iapply Hk
  iapply (out_join xg wg c); iexact H

end

end Cert.KernelIdeal.Ring
end
-- ==== Proof.KernelIdeal.Body.lean ====
/-
  The kernel's body on one device, from all it is given to all it leaves.
-/
module

public import proofs.«01_k».proof.Proof.KernelIdeal.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

theorem assoc_eq (A B C : sProp 𝕄) : iprop((A ∗ B) ∗ C) = iprop(A ∗ B ∗ C) :=
  equiv_iff.mp
    ⟨show iprop((A ∗ B) ∗ C) ⊢ iprop(A ∗ B ∗ C) by
        iintro ⟨⟨H1, H2⟩, H3⟩
        isplitl [H1]; · iexact H1
        isplitl [H2] <;> iassumption,
      show iprop(A ∗ B ∗ C) ⊢ iprop((A ∗ B) ∗ C) by
        iintro ⟨H1, H2, H3⟩
        isplitl [H1 H2]
        · isplitl [H1] <;> iassumption
        iexact H3⟩

/-! ## Index sets as one element and the rest -/

theorem split_one {A B : Type} [Fintype A] [Fintype B] [DecidableEq A] (a : A) (f : B → A) (hf : Function.Injective f) (ha : ∀ b, f b ≠ a)
    (hu : ∀ x, x = a ∨ ∃ b, f b = x) (Φ : A → sProp 𝕄) : bigSep Finset.univ Φ = iprop(Φ a ∗ bigSep Finset.univ fun b => Φ (f b)) := by
  have e : (Finset.univ : Finset A) = insert a (Finset.univ.map ⟨f, hf⟩) := by
    ext x; simpa [eq_comm] using hu x
  rw [e, bigSep_insert (by simpa using ha), bigSep_map]
  rfl

theorem farDev_inj (c : Dev nD) : Function.Injective (farDev c) := by
  intro o o'; revert c o o'; decide +kernel
theorem farDev_or (c : Dev nD) : ∀ x, x = c ∨ ∃ o, farDev c o = x := by revert c; decide +kernel
theorem dev_split (c : Dev nD) (Φ : Dev nD → sProp 𝕄) : bigSep Finset.univ Φ = iprop(Φ c ∗ bigSep Finset.univ fun o : Fin 7 => Φ (farDev c o)) :=
  split_one c (farDev c) (farDev_inj c) (farDev_ne c) (farDev_or c) Φ
theorem fin8_split (Φ : Fin 8 → sProp 𝕄) : bigSep Finset.univ Φ = iprop(Φ 0 ∗ bigSep Finset.univ fun o : Fin 7 => Φ o.succ) :=
  split_one 0 Fin.succ (Fin.succ_injective 7) Fin.succ_ne_zero (by decide) Φ
theorem hop_first (Φ : Fin 7 → sProp 𝕄) : bigSep Finset.univ Φ = iprop(Φ 0 ∗ bigSep Finset.univ fun h : Fin 6 => Φ h.succ) :=
  split_one 0 Fin.succ (Fin.succ_injective 6) Fin.succ_ne_zero (by decide) Φ
theorem hop_last (Φ : Fin 7 → sProp 𝕄) : bigSep Finset.univ Φ = iprop(Φ 6 ∗ bigSep Finset.univ fun h : Fin 6 => Φ h.castSucc) :=
  split_one 6 Fin.castSucc (Fin.castSucc_injective 6) (by decide) (by decide) Φ
theorem slot_first (Φ : Fin 8 → sProp 𝕄) : bigSep Finset.univ Φ = iprop(Φ 7 ∗ bigSep Finset.univ fun h : Fin 7 => Φ (dstSlot h)) :=
  split_one 7 dstSlot (by intro o o'; revert o o'; decide) (by decide) (by decide) Φ
theorem slot_last (Φ : Fin 8 → sProp 𝕄) : bigSep Finset.univ Φ = iprop(Φ 6 ∗ bigSep Finset.univ fun h : Fin 7 => Φ (srcSlot h)) :=
  split_one 6 srcSlot (by intro o o'; revert o o'; decide) (by decide) (by decide) Φ

theorem comm_open (c : Dev nD) (d : Bool) : (bufE c (commRef d) : sProp 𝕄)
    ⊢ iprop((bigSep Finset.univ fun s => pcE c d 7 s) ∗ bigSep Finset.univ fun i : Fin 7 × Fin 4 => pcE c d (dstSlot i.1) i.2) := by
  refine (comm_cut c d).trans (Entails.of_eq ?_)
  rw [bigSep_univ_prod, bigSep_univ_prod (fun i : Fin 7 × Fin 4 => pcE (F := F) c d (dstSlot i.1) i.2)]
  exact slot_first (fun j => bigSep Finset.univ fun s => pcE (F := F) c d j s)
theorem comm_close (c : Dev nD) (d : Bool) :
    iprop((bigSep Finset.univ fun s => pcE c d (dstSlot 6) s) ∗ bigSep Finset.univ fun h : Fin 7 => bigSep Finset.univ fun s => pcE c d (srcSlot h) s)
      ⊢ (bufE c (commRef d) : sProp 𝕄) := by
  refine Entails.trans (Entails.of_eq ?_) (comm_join c d)
  rw [bigSep_univ_prod]
  exact (slot_last (fun j => bigSep Finset.univ fun s => pcE (F := F) c d j s)).symm

theorem slots_zero (c : Dev nD) : (slots c 0 : sProp 𝕄) = bigSep Finset.univ fun o : Fin 7 => slE c (farDev c o) := by
  unfold slots; rw [show (Finset.univ.filter fun k : Fin 7 => 0 ≤ k.val) = Finset.univ by decide]; rfl

theorem back_zero (c : Dev nD) : back c 0 = c := by revert c; decide

/-- A device's table: its own slot, and the others, which travel. -/
theorem table_open (c : Dev nD) : (bufE c cc0_scratch4 : sProp 𝕄) ⊢ iprop(slE c c ∗ bigSep Finset.univ fun s => iprop(slOut c true 0 s ∗ slOut c false 0 s)) := by
  refine (table_cut c).trans ?_
  rw [dev_split c, ← slots_zero, bigSep_univ_eq_bigSepL [0, 1, 2, 3] (by decide) (by decide) (fun s => iprop(slOut (F := F) c true 0 s ∗ slOut c false 0 s))]
  show _ ⊢ iprop(slE c c ∗ (slOut c true 0 0 ∗ slOut c false 0 0) ∗ (slOut c true 0 1 ∗ slOut c false 0 1) ∗ (slOut c true 0 2 ∗ slOut c false 0 2) ∗ (slOut c true 0 3 ∗ slOut c false 0 3))
  unfold slOut
  rw [back_zero, if_pos ⟨rfl, rfl⟩, if_neg (by decide), if_neg (by decide), if_neg (by decide), if_neg (by decide), if_neg (by decide), if_neg (by decide), if_neg (by decide)]
  iintro ⟨H0, H1⟩
  isplitl [H0]; · iexact H0
  isplitl
  · isplitl; · iexact H1
    iempintro
  isplitr
  · isplitr <;> iempintro
  isplitr
  · isplitr <;> iempintro
  isplitr <;> iempintro

/-- The slots the device keeps on the way, all its own magnitude goes to. -/
theorem kept (c : Dev nD) :
    (bigSep Finset.univ fun h : Fin 7 => bigSep Finset.univ fun s => iprop(slKeep c true h.val s ∗ slKeep c false h.val s) : sProp 𝕄)
      ⊢ bigSep Finset.univ fun o : Fin 7 => slE (axDev c o) c := by
  refine (big_mono (Ψ := fun h : Fin 7 => slE (F := F) (back c (h.val + 1)) c) fun h _ => ?_).trans (Entails.of_eq ?_)
  · refine (bigSep_elim (Φ := fun s => iprop(slKeep (F := F) c true h.val s ∗ slKeep c false h.val s)) (Finset.mem_univ (0 : Fin 4))).trans ?_
    unfold slKeep
    rw [if_pos ⟨rfl, rfl⟩]
    show iprop(slE (F := F) (back c (h.val + 1)) c ∗ (if false = true ∧ (0 : Fin 4) = 0 then slE (back c (h.val + 1)) c else iprop(emp))) ⊢ slE (back c (h.val + 1)) c
    iintro ⟨H, -⟩; iexact H
  · rw [bigSep_univ_equiv Fin.revPerm]
    exact bigSep_congr fun o _ => by rw [axDev_eq]; rfl

/-! ## Loading the table while part of it is lent -/

section

variable (xg : Dev nD → Vec F S4096x512 .bf16) (wg : Dev nD → Vec F S512x2048 .bf16) (K : Dev nD × Key → ℕ)

theorem slT_leaves (T : Vec F S8x8x128 .f32) (c t : Dev nD) : (slT T c t fullShare : sProp 𝕄)
    = iprop(slT T c t (ShareLeaves.leaf 3 fullShare 0) ∗ bigSep Finset.univ fun o : Fin 7 => slT T c t (ShareLeaves.leaf 3 fullShare o.succ)) := by
  have h := ShareLeaves.pointsTo_leaves (nD := nD) (τ := τ) (sig := sig) (Ix := Unit) (Val := Elt F) (Name := ℕ) (U := UU) (Lvl := ℕ)
    (slotM t).view.set (ℓ := (slotM t).view.loc (c : Thread nD τ)) (T : Buf (Elt F) ((slotM t).view.loc (c : Thread nD τ))) 3 fullShare
  exact h.trans (fin8_split (fun i => slT T c t (ShareLeaves.leaf 3 fullShare i)))

theorem table_part (T : Vec F S8x8x128 .f32) (c : Dev nD) :
    iprop(slT T c c (ShareLeaves.leaf 3 fullShare 0) ∗ bigSep Finset.univ fun o : Fin 7 => slT T c (farDev c o) fullShare)
      = iprop(((((c : Thread nD τ).loc cc0_scratch4) ↦{ShareLeaves.leaf 3 fullShare 0} (T : Buf (Elt F) ((c : Thread nD τ).loc cc0_scratch4))) : sProp 𝕄)
        ∗ bigSep Finset.univ fun o : Fin 7 => bigSep Finset.univ fun o' : Fin 7 => slT T c (farDev c o) (ShareLeaves.leaf 3 fullShare o'.succ)) := by
  simp only [slT_leaves, bigSep_sep']
  rw [table_split, dev_split c]
  exact (assoc_eq _ _ _).symm

theorem axLoad_rule (T : Vec F S8x8x128 .f32) (c : Dev nD) {α : Type} (kt : Vec F S8x8x128 .f32 → P (F := F) α) (Q : α → sProp 𝕄) :
    iprop(slT T c c (ShareLeaves.leaf 3 fullShare 0) ∗ bigSep Finset.univ fun o : Fin 7 => slT T c (farDev c o) fullShare)
      ⊢ iprop((slT T c c (ShareLeaves.leaf 3 fullShare 0) ∗ (bigSep Finset.univ fun o : Fin 7 => slT T c (farDev c o) fullShare) -∗ WP c (kt T) Q)
          -∗ WP c (axLoad >>= kt) Q) := by
  rw [table_part]
  simp only [axLoad, Prog.lift, Prog.bind_op, Prog.bind_ret]
  have hz3 : (![0, 0, 0] : Fin 3 → ℕ) = fun _ => 0 := by funext a; fin_cases a <;> rfl
  iintro ⟨H, Hr⟩ Hk
  iapply (wp_load 𝒱₀ (c : Thread nD τ) none Set.univ (m := aB) (Finset.subset_univ _)) $$ H; iintro H
  have e : aB.view.readAt (Elt F) (Rect.unit (s := S8x8x128) ![0, 0, 0] S8x8x128.size inb_S8x8x128_S8x8x128_0_0_0).toLoadRect T = T :=
    Memref.readAt_unit_zero (Elt F) cc0_scratch4 hz3 _ T
  rw [e]
  iapply Hk
  isplitl [H] <;> iassumption

theorem table_close (T : Vec F S8x8x128 .f32) (c : Dev nD) :
    iprop((slT T c c (ShareLeaves.leaf 3 fullShare 0) ∗ bigSep Finset.univ fun o : Fin 7 => slT T c c (ShareLeaves.leaf 3 fullShare o.succ))
        ∗ bigSep Finset.univ fun o : Fin 7 => slT T c (farDev c o) fullShare)
      ⊢ (bufE c cc0_scratch4 : sProp 𝕄) := by
  rw [← slT_leaves, ← dev_split c (fun t => slT T c t fullShare), ← table_split]
  iintro H; iexists _; iexact H

/-! ## The two rings -/

/-- Per hop and band: the rights to wait for what arrives, what the sends need, what is left. -/
def dueR (c : Dev nD) (h : Fin 7) (s : Fin 4) : sProp 𝕄 := iprop(due c (.recv true h s) ∗ due c (.recv false h s))
def needs (c : Dev nD) (h : Fin 7) (s : Fin 4) : sProp 𝕄 := iprop(need c true h s ∗ need c false h s)
def zeroR (c : Dev nD) (h : Fin 7) (s : Fin 4) : sProp 𝕄 := iprop(zero c (.recv true h s) ∗ zero c (.recv false h s))
def crdS (c : Dev nD) (h : Fin 7) (s : Fin 4) : sProp 𝕄 := iprop(crd c (.send true h s) ∗ crd c (.send false h s))
def atS (c : Dev nD) (h : Fin 7) (s : Fin 4) : sProp 𝕄 := iprop(at0 c (.send true h s) ∗ at0 c (.send false h s))
def zeroS (c : Dev nD) (h : Fin 7) (s : Fin 4) : sProp 𝕄 := iprop(zero c (.send true h s) ∗ zero c (.send false h s))
def tokR (c : Dev nD) (h : Fin 7) (s : Fin 4) : sProp 𝕄 := iprop((tok c (.src true h s) ∗ tok c (.land true h s)) ∗ tok c (.src false h s) ∗ tok c (.land false h s))
def keeps (c : Dev nD) (h : ℕ) (s : Fin 4) : sProp 𝕄 := iprop(slKeep c true h s ∗ slKeep c false h s)
def pcs (c : Dev nD) (j : Fin 8) (s : Fin 4) : sProp 𝕄 := iprop(pcE c true j s ∗ pcE c false j s)
/-- Over all bands; over all hops and bands. -/
abbrev bands (Φ : Fin 4 → sProp 𝕄) : sProp 𝕄 := bigSep Finset.univ Φ
abbrev grid {n : ℕ} (Φ : Fin n → Fin 4 → sProp 𝕄) : sProp 𝕄 := bigSep Finset.univ fun h => bigSep Finset.univ (Φ h)

theorem hops_rule (c : Dev nD) {α : Type} (kt : PUnit → P (F := F) α) (Q : α → sProp 𝕄) :
    iprop(base xg wg K c 11 ∗ grid (hopIn c)) ⊢ iprop((base xg wg K c 59 ∗ grid (hopOut c) -∗ WP c (kt ⟨⟩) Q) -∗ WP c (hops c >>= kt) Q) := by
  have step : ∀ (h : Fin 6) (n m : ℕ) (hn : n = 11 + 8 * h.val) (hm : m = n + 8) (kt : PUnit → P (F := F) α),
      iprop(base xg wg K c n ∗ bands (hopIn c h)) ⊢ iprop((base xg wg K c m ∗ bands (hopOut c h) -∗ WP c (kt ⟨⟩) Q) -∗ WP c (four (hop c h) >>= kt) Q) := by
    intro h n m hn hm kt
    subst hn; subst hm
    exact four_rule c (hop c h) (fun k => base xg wg K c (11 + 8 * h.val + 2 * k)) (hopIn c h) (hopOut c h)
      (fun s _ kt Q => hop_rule xg wg K c h s _ rfl kt Q) kt Q
  unfold grid
  rw [bigSep_univ_eq_bigSepL [0, 1, 2, 3, 4, 5] (by decide) (by decide) (fun h => bigSep Finset.univ (hopIn (F := F) c h)),
    bigSep_univ_eq_bigSepL [0, 1, 2, 3, 4, 5] (by decide) (by decide) (fun h => bigSep Finset.univ (hopOut (F := F) c h))]
  show iprop(base xg wg K c 11 ∗ bands (hopIn c 0) ∗ bands (hopIn c 1) ∗ bands (hopIn c 2) ∗ bands (hopIn c 3) ∗ bands (hopIn c 4) ∗ bands (hopIn c 5))
    ⊢ iprop((base xg wg K c 59 ∗ bands (hopOut c 0) ∗ bands (hopOut c 1) ∗ bands (hopOut c 2) ∗ bands (hopOut c 3) ∗ bands (hopOut c 4) ∗ bands (hopOut c 5)
      -∗ WP c (kt ⟨⟩) Q) -∗ WP c (hops c >>= kt) Q)
  simp only [hops, Prog.bind_assoc]
  iintro ⟨Hb, H0, H1, H2, H3, H4, H5⟩ Hk
  iapply (step 0 11 19 rfl rfl _) $$ [Hb H0]; · isplitl [Hb] <;> iassumption
  iintro ⟨Hb, H0⟩
  iapply (step 1 19 27 rfl rfl _) $$ [Hb H1]; · isplitl [Hb] <;> iassumption
  iintro ⟨Hb, H1⟩
  iapply (step 2 27 35 rfl rfl _) $$ [Hb H2]; · isplitl [Hb] <;> iassumption
  iintro ⟨Hb, H2⟩
  iapply (step 3 35 43 rfl rfl _) $$ [Hb H3]; · isplitl [Hb] <;> iassumption
  iintro ⟨Hb, H3⟩
  iapply (step 4 43 51 rfl rfl _) $$ [Hb H4]; · isplitl [Hb] <;> iassumption
  iintro ⟨Hb, H4⟩
  iapply (step 5 51 59 rfl rfl _) $$ [Hb H5]; · isplitl [Hb] <;> iassumption
  iintro ⟨Hb, H5⟩
  iapply Hk
  isplitl [Hb]; · iexact Hb
  isplitl [H0]; · iexact H0
  isplitl [H1]; · iexact H1
  isplitl [H2]; · iexact H2
  isplitl [H3]; · iexact H3
  isplitl [H4] <;> iassumption

def openIn (c : Dev nD) (s : Fin 4) : sProp 𝕄 := iprop(pcs c 7 s ∗ needs c 0 s ∗ slOut c true 0 s ∗ slOut c false 0 s)

theorem open_rule (c : Dev nD) {α : Type} (kt : PUnit → P (F := F) α) (Q : α → sProp 𝕄) :
    iprop(base xg wg K c 3 ∗ bands (openIn c))
      ⊢ iprop((base xg wg K c 11 ∗ bands (crdS c 0) -∗ WP c (kt ⟨⟩) Q)
        -∗ WP c ((four fun s => do open1 c true s; open1 c false s) >>= kt) Q) := by
  refine four_rule c _ (fun k => base xg wg K c (3 + 2 * k)) (openIn c) (crdS c 0) (fun s _ kt Q => ?_) kt Q
  unfold openIn crdS needs pcs
  simp only [Prog.bind_assoc]
  iintro ⟨Hb, ⟨Hp1, Hp0⟩, ⟨Hn1, Hn0⟩, Hs1, Hs0⟩ Hk
  iapply (open1_rule xg wg K c true s (3 + 2 * s.val) (by simp [rank])) $$ [Hb Hp1 Hn1 Hs1]
  · isplitl [Hb]; · iexact Hb
    isplitl [Hp1]; · iexact Hp1
    isplitl [Hn1] <;> iassumption
  iintro ⟨Hb, Hc1⟩
  iapply (open1_rule xg wg K c false s (3 + 2 * s.val + 1) (by simp [rank])) $$ [Hb Hp0 Hn0 Hs0]
  · isplitl [Hb]; · iexact Hb
    isplitl [Hp0]; · iexact Hp0
    isplitl [Hn0] <;> iassumption
  iintro ⟨Hb, Hc0⟩
  iapply Hk
  isplitl [Hb]; · iexact Hb
  isplitl [Hc1] <;> iassumption

def lastOut (c : Dev nD) (s : Fin 4) : sProp 𝕄 := iprop(zeroR c 6 s ∗ pcs c (dstSlot 6) s ∗ keeps c (6 : Fin 7).val s)

theorem lastHop_rule (c : Dev nD) {α : Type} (kt : (Fin 4 → Fin 4 → FVec F S128x512 .f32) → P (F := F) α) (Q : α → sProp 𝕄) :
    iprop(base xg wg K c 59 ∗ bands (dueR c 6))
      ⊢ iprop((base xg wg K c 59 ∗ bands (lastOut c) -∗ WP c (kt (yAt xg wg c)) Q) -∗ WP c (lastHop c >>= kt) Q) := by
  have hlv : ∀ j, 59 ≤ rank j → (6 : Fin 7).val + 2 < lvKey (payKey c j) := by
    intro j hj
    cases j with
    | bar b => revert hj; cases b <;> simp [rank]
    | land d h s => exfalso; have := h.isLt; have := s.isLt; revert hj; simp only [rank]; split <;> omega
    | src d h s => simp [rank] at hj
    | axl o => simp [payKey, lvKey]
    | axo o => simp [rank] at hj
  have step : ∀ (s : Fin 4) (kt : (Fin 4 → FVec F S128x512 .f32) → P (F := F) α),
      iprop(base xg wg K c 59 ∗ dueR c 6 s) ⊢ iprop((base xg wg K c 59 ∗ lastOut c s -∗ WP c (kt (yAt xg wg c s)) Q) -∗ WP c (take c 6 s >>= kt) Q) := by
    intro s kt
    unfold dueR lastOut zeroR pcs keeps
    iintro ⟨Hb, H1, H0⟩ Hk
    iapply (take_rule xg wg K c 6 s 59 hlv kt Q) $$ [Hb H1 H0]
    · isplitl [Hb]; · iexact Hb
      isplitl [H1] <;> iassumption
    iintro ⟨Hb, Hz, Hp, Hs1, Hs0⟩
    ihave Hs1' := (slIn_split c true (6 : Fin 7).val (by decide) s) $$ Hs1
    ihave Hs0' := (slIn_split c false (6 : Fin 7).val (by decide) s) $$ Hs0
    icases Hs1' with ⟨Hs1, -⟩
    icases Hs0' with ⟨Hs0, -⟩
    rw [show tileAt xg wg c 6 s = yAt xg wg c s by fin_cases s <;> rfl]
    iapply Hk
    isplitl [Hb]; · iexact Hb
    isplitl [Hz]; · iexact Hz
    isplitl [Hp]; · iexact Hp
    isplitl [Hs1] <;> iassumption
  unfold bands
  rw [bigSep_univ_eq_bigSepL [0, 1, 2, 3] (by decide) (by decide) (dueR (F := F) c 6), bigSep_univ_eq_bigSepL [0, 1, 2, 3] (by decide) (by decide) (lastOut (F := F) c)]
  show iprop(base xg wg K c 59 ∗ dueR c 6 0 ∗ dueR c 6 1 ∗ dueR c 6 2 ∗ dueR c 6 3)
    ⊢ iprop((base xg wg K c 59 ∗ lastOut c 0 ∗ lastOut c 1 ∗ lastOut c 2 ∗ lastOut c 3 -∗ WP c (kt (yAt xg wg c)) Q) -∗ WP c (lastHop c >>= kt) Q)
  have hy : (![yAt xg wg c 0, yAt xg wg c 1, yAt xg wg c 2, yAt xg wg c 3] : Fin 4 → Fin 4 → FVec F S128x512 .f32) = yAt xg wg c := by
    funext s; fin_cases s <;> rfl
  simp only [lastHop, Prog.bind_assoc, Prog.pure_eq_ret, Prog.bind_ret]
  iintro ⟨Hb, H0, H1, H2, H3⟩ Hk
  iapply (step 0 _) $$ [Hb H0]; · isplitl [Hb] <;> iassumption
  iintro ⟨Hb, H0⟩
  iapply (step 1 _) $$ [Hb H1]; · isplitl [Hb] <;> iassumption
  iintro ⟨Hb, H1⟩
  iapply (step 2 _) $$ [Hb H2]; · isplitl [Hb] <;> iassumption
  iintro ⟨Hb, H2⟩
  iapply (step 3 _) $$ [Hb H3]; · isplitl [Hb] <;> iassumption
  iintro ⟨Hb, H3⟩
  rw [hy]
  iapply Hk
  isplitl [Hb]; · iexact Hb
  isplitl [H0]; · iexact H0
  isplitl [H1]; · iexact H1
  isplitl [H2] <;> iassumption

theorem drain_rule (c : Dev nD) {α : Type} (kt : PUnit → P (F := F) α) (Q : α → sProp 𝕄) :
    iprop(rest xg wg K c ∗ grid fun h s => iprop(crdS c h s ∗ atS c h s))
      ⊢ iprop((rest xg wg K c ∗ (grid fun h s => iprop(zeroS c h s ∗ pcs c (srcSlot h) s)) -∗ WP c (kt ⟨⟩) Q) -∗ WP c (drain >>= kt) Q) := by
  unfold drain
  refine seven_rule c _ (fun _ => rest xg wg K c) _ _ (fun h _ kt Q => ?_) kt Q
  refine four_rule c _ (fun _ => rest xg wg K c) _ _ (fun s _ kt Q => ?_) kt Q
  unfold crdS atS zeroS pcs rest
  simp only [Prog.bind_assoc]
  iintro ⟨⟨#HR, #Hl, Ho⟩, ⟨Hc1, Hc0⟩, Ha1, Ha0⟩ Hk
  iapply (waitSend_rule xg wg K c true h s) $$ [Ho Hc1 Ha1]
  · unfold due
    isplitr; · iexact HR
    isplitr; · iexact Hl
    isplitl [Ho]; · iexact Ho
    isplitl [Hc1] <;> iassumption
  iintro ⟨Ho, Hz1, Hp1⟩
  iapply (waitSend_rule xg wg K c false h s) $$ [Ho Hc0 Ha0]
  · unfold due
    isplitr; · iexact HR
    isplitr; · iexact Hl
    isplitl [Ho]; · iexact Ho
    isplitl [Hc0] <;> iassumption
  iintro ⟨Ho, Hz0, Hp0⟩
  iapply Hk
  isplitl [Ho]
  · isplitr; · iexact HR
    isplitr; · iexact Hl
    iexact Ho
  isplitl [Hz1 Hz0]
  · isplitl [Hz1] <;> iassumption
  isplitl [Hp1] <;> iassumption

end

end Cert.KernelIdeal.Ring
end
-- ==== Proof.KernelIdeal.Whole.lean ====
/-
  The whole body of the kernel on one device.
-/
module

public import proofs.«01_k».proof.Proof.KernelIdeal.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (xg : Dev nD → Vec F S4096x512 .bf16) (wg : Dev nD → Vec F S512x2048 .bf16) (K : Dev nD × Key → ℕ)

/-! ## Regrouping -/

theorem grid_sep {n : ℕ} (A B : Fin n → Fin 4 → sProp 𝕄) : grid (fun h s => iprop(A h s ∗ B h s)) = iprop(grid A ∗ grid B) := by
  unfold grid; simp only [bigSep_sep']

theorem needs_intro (c : Dev nD) :
    iprop(bigSep Finset.univ (fun i : Fin 7 × Fin 4 => pcE (toDev c true) true (dstSlot i.1) i.2)
        ∗ bigSep Finset.univ (fun i : Fin 7 × Fin 4 => pcE (toDev c false) false (dstSlot i.1) i.2) ∗ grid (tokR c))
      ⊢ (grid (needs c) : sProp 𝕄) := by
  rw [bigSep_univ_prod, bigSep_univ_prod]
  show iprop(grid (fun (h : Fin 7) s => pcE (toDev c true) true (dstSlot h) s) ∗ grid (fun (h : Fin 7) s => pcE (toDev c false) false (dstSlot h) s) ∗ grid (tokR c)) ⊢ _
  rw [← grid_sep, ← grid_sep]
  refine big_mono fun h _ => big_mono fun s _ => ?_
  unfold tokR needs need
  iintro ⟨H1, H0, ⟨T1, T2⟩, T3, T4⟩
  isplitl [H1 T1 T2]
  · isplitl [H1]; · iexact H1
    isplitl [T1] <;> iassumption
  isplitl [H0]; · iexact H0
  isplitl [T3] <;> iassumption

theorem open_intro (c : Dev nD) :
    iprop((bigSep Finset.univ fun s => pcE c true 7 s) ∗ (bigSep Finset.univ fun s => pcE c false 7 s) ∗ bands (needs c 0)
        ∗ bigSep Finset.univ fun s => iprop(slOut c true 0 s ∗ slOut c false 0 s))
      ⊢ (bands (openIn c) : sProp 𝕄) := by
  unfold bands
  rw [← bigSep_sep', ← bigSep_sep', ← bigSep_sep']
  refine big_mono fun s _ => ?_
  unfold openIn pcs
  iintro ⟨H1, H0, Hn, Hs⟩
  isplitl [H1 H0]
  · isplitl [H1] <;> iassumption
  isplitl [Hn] <;> iassumption

theorem hops_intro (c : Dev nD) :
    iprop((bigSep Finset.univ fun h : Fin 6 => bands (dueR c h.castSucc)) ∗ bigSep Finset.univ fun h : Fin 6 => bands (needs c h.succ))
      ⊢ (grid (hopIn c) : sProp 𝕄) := by
  unfold grid bands
  rw [← bigSep_sep']
  refine big_mono fun h _ => ?_
  rw [← bigSep_sep']
  exact big_mono fun s _ => by unfold dueR needs hopIn; exact Entails.refl _

theorem hops_elim (c : Dev nD) :
    (grid (hopOut c) : sProp 𝕄) ⊢ iprop((bigSep Finset.univ fun h : Fin 6 => bands (zeroR c h.castSucc))
      ∗ (bigSep Finset.univ fun h : Fin 6 => bands (keeps c h.castSucc.val)) ∗ bigSep Finset.univ fun h : Fin 6 => bands (crdS c h.succ)) := by
  unfold grid bands
  rw [← bigSep_sep', ← bigSep_sep']
  refine big_mono fun h _ => ?_
  rw [← bigSep_sep', ← bigSep_sep']
  exact big_mono fun s _ => by unfold zeroR keeps crdS hopOut; exact Entails.refl _

theorem grid_last (A : Fin 7 → Fin 4 → sProp 𝕄) : grid A = iprop(bands (A 6) ∗ bigSep Finset.univ fun h : Fin 6 => bands (A h.castSucc)) :=
  hop_last (fun h => bands (A h))
theorem grid_first (A : Fin 7 → Fin 4 → sProp 𝕄) : grid A = iprop(bands (A 0) ∗ bigSep Finset.univ fun h : Fin 6 => bands (A h.succ)) :=
  hop_first (fun h => bands (A h))

theorem last_elim (c : Dev nD) : (bands (lastOut c) : sProp 𝕄) = iprop(bands (zeroR c 6) ∗ bands (pcs c (dstSlot 6)) ∗ bands (keeps c (6 : Fin 7).val)) := by
  unfold bands lastOut; simp only [bigSep_sep']

theorem pcs_close (c : Dev nD) : iprop(bands (pcs c (dstSlot 6)) ∗ grid (fun h s => pcs c (srcSlot h) s)) ⊢ (iprop(bufE c cc0_scratch2 ∗ bufE c cc0_scratch3) : sProp 𝕄) := by
  unfold bands grid pcs
  simp only [bigSep_sep']
  iintro ⟨⟨A1, A0⟩, B1, B0⟩
  isplitl [A1 B1]
  · iapply (comm_close (F := F) c true)
    isplitl [A1] <;> iassumption
  · iapply (comm_close (F := F) c false)
    isplitl [A0] <;> iassumption

/-! ## The body -/

/-- What the body starts from on device `c`. -/
def bodyIn (c : Dev nD) : sProp 𝕄 :=
  iprop(records xg wg K ∗ levAts L lv ∗ ow' c 1 ∗ (tok c (.bar false) ∗ tok c (.bar true) ∗ due c .bar)
    ∗ (grid (dueR c) ∗ grid (tokR c) ∗ grid (atS c))
    ∗ ((bigSep Finset.univ fun o => iprop(tok c (.axo o) ∗ tok c (.axl o))) ∗ (at0 c (.axs 0) ∗ bigSep Finset.univ fun o : Fin 7 => at0 c (.axs o.succ))
      ∗ at0 c (.axr c) ∗ bigSep Finset.univ fun o => due c (.axr (farDev c o)))
    ∗ buf c cc0_stg0_0 (xg c) ∗ buf c cc0_stg1_0 (wg c) ∗ bufE c cc0_stg2_0
    ∗ bufE c cc0_scratch0 ∗ bufE c cc0_scratch1 ∗ bufE c cc0_scratch2 ∗ bufE c cc0_scratch3 ∗ bufE c cc0_scratch4)

/-- And what it leaves. -/
def bodyOut (c : Dev nD) : sProp 𝕄 :=
  iprop(ow' c 66 ∗ (zero c .bar ∗ grid (zeroS c) ∗ grid (zeroR c) ∗ (zero c (.axs 0) ∗ bigSep Finset.univ fun o : Fin 7 => zero c (.axs o.succ))
      ∗ zero c (.axr c) ∗ bigSep Finset.univ fun o => zero c (.axr (farDev c o)))
    ∗ buf c cc0_stg0_0 (xg c) ∗ buf c cc0_stg1_0 (wg c) ∗ buf c cc0_stg2_0 (outAt xg wg c)
    ∗ bufE c cc0_scratch0 ∗ bufE c cc0_scratch1 ∗ bufE c cc0_scratch2 ∗ bufE c cc0_scratch3 ∗ bufE c cc0_scratch4)

theorem axSends_rule (c : Dev nD) {α : Type} (kt : PUnit → P (F := F) α) (Q : α → sProp 𝕄) :
    iprop((records xg wg K ∗ ow' c 59) ∗ (bigSep Finset.univ fun o : Fin 7 => slT (table xg wg) c c (ShareLeaves.leaf 3 fullShare o.succ))
        ∗ (bigSep Finset.univ fun o => slE (axDev c o) c) ∗ bigSep Finset.univ fun o => iprop(tok c (.axo o) ∗ tok c (.axl o)))
      ⊢ iprop(((records xg wg K ∗ ow' c 66) ∗ (bigSep Finset.univ fun o : Fin 7 => crd c (.axs o.succ)) -∗ WP c (kt ⟨⟩) Q) -∗ WP c (seven (axSend c) >>= kt) Q) := by
  rw [← bigSep_sep', ← bigSep_sep']
  exact seven_rule c (axSend c) (fun n => iprop(records xg wg K ∗ ow' c (59 + n))) _ _ (fun o _ kt Q => axSend_rule xg wg K c o kt Q) kt Q

theorem axWaits_rule (c : Dev nD) {α : Type} (kt : PUnit → P (F := F) α) (Q : α → sProp 𝕄) :
    iprop(rest xg wg K c ∗ bigSep Finset.univ fun o => due c (.axr (farDev c o)))
      ⊢ iprop((rest xg wg K c ∗ (bigSep Finset.univ fun o => zero c (.axr (farDev c o))) ∗ (bigSep Finset.univ fun o : Fin 7 => slT (table xg wg) c (farDev c o) fullShare)
          -∗ WP c (kt ⟨⟩) Q) -∗ WP c (seven (axWait c) >>= kt) Q) := by
  rw [← bigSep_sep']
  exact seven_rule c (axWait c) (fun _ => rest xg wg K c) _ _ (fun o _ kt Q => axWait_rule xg wg K c o kt Q) kt Q

theorem axDones_rule (c : Dev nD) {α : Type} (kt : PUnit → P (F := F) α) (Q : α → sProp 𝕄) :
    iprop(rest xg wg K c ∗ (bigSep Finset.univ fun o : Fin 7 => crd c (.axs o.succ)) ∗ bigSep Finset.univ fun o : Fin 7 => at0 c (.axs o.succ))
      ⊢ iprop((rest xg wg K c ∗ (bigSep Finset.univ fun o : Fin 7 => zero c (.axs o.succ))
            ∗ (bigSep Finset.univ fun o : Fin 7 => slT (table xg wg) c c (ShareLeaves.leaf 3 fullShare o.succ))
          -∗ WP c (kt ⟨⟩) Q) -∗ WP c (seven (axDone c) >>= kt) Q) := by
  rw [← bigSep_sep', ← bigSep_sep']
  exact seven_rule c (axDone c) (fun _ => rest xg wg K c) _ _ (fun o _ kt Q => axDone_rule xg wg K c o kt Q) kt Q

set_option maxHeartbeats 1000000 in
theorem body_rule (c : Dev nD) {α : Type} (kt : PUnit → P (F := F) α) (Q : α → sProp 𝕄) :
    bodyIn xg wg K c ⊢ iprop((bodyOut xg wg c -∗ WP c (kt ⟨⟩) Q) -∗ WP c (ringBody >>= kt) Q) := by
  unfold bodyIn ringBody
  simp only [Prog.lift, Prog.bind_op, Prog.bind_ret, Prog.bind_assoc, wp_deviceId]
  iintro ⟨#HR, #Hl, Ho, ⟨Tb0, Tb1, Hb⟩, ⟨Hd, Ht, Ha⟩, ⟨Hax, ⟨Ha0, Has⟩, Har, Hdr⟩, Hx, Hw, Hout, S0, S1, S2, S3, S4⟩ Hk
  imod (close_unused xg wg K c (.axs 0) (by simp [used])) $$ [Ha0] with Z0
  · isplitr; · iexact HR
    iexact Ha0
  imod (close_unused xg wg K c (.axr c) (by simp [used])) $$ [Har] with Zc
  · isplitr; · iexact HR
    iexact Har
  ihave S2' := (comm_open (F := F) c true) $$ S2
  icases S2' with ⟨P17, P1⟩
  ihave S3' := (comm_open (F := F) c false) $$ S3
  icases S3' with ⟨P07, P0⟩
  ihave S4' := (table_open (F := F) c) $$ S4
  icases S4' with ⟨Own, Sl⟩
  iapply (meet_rule xg wg K c) $$ [Ho Tb0 Tb1 P1 P0 Hb]
  · isplitr; · iexact HR
    isplitr; · iexact Hl
    isplitl [Ho]; · iexact Ho
    isplitl [Tb0]; · iexact Tb0
    isplitl [Tb1]; · iexact Tb1
    isplitl [P1]; · iexact P1
    isplitl [P0] <;> iassumption
  iintro ⟨Ho, Zb, P1, P0⟩
  ihave N := (needs_intro (F := F) c) $$ [P1 P0 Ht]
  · isplitl [P1]; · iexact P1
    isplitl [P0] <;> iassumption
  ihave N' := (Entails.of_eq (grid_first (needs (F := F) c))) $$ N
  icases N' with ⟨N0, N⟩
  iapply (copyIn_rule xg wg c) $$ [Hx Hw S0 S1]
  · isplitl [Hx]; · iexact Hx
    isplitl [Hw]; · iexact Hw
    isplitl [S0] <;> iassumption
  iintro ⟨Hx, Hw, S0, S1⟩
  iapply (open_rule xg wg K c) $$ [Ho S0 S1 P17 P07 N0 Sl]
  · isplitl [Ho S0 S1]
    · unfold base
      isplitr; · iexact HR
      isplitr; · iexact Hl
      isplitl [S0]; · iexact S0
      isplitl [S1] <;> iassumption
    iapply (open_intro (F := F) c)
    isplitl [P17]; · iexact P17
    isplitl [P07]; · iexact P07
    isplitl [N0] <;> iassumption
  iintro ⟨Hbase, C0⟩
  ihave Hd' := (Entails.of_eq (grid_last (dueR (F := F) c))) $$ Hd
  icases Hd' with ⟨D6, D⟩
  iapply (hops_rule xg wg K c) $$ [Hbase D N]
  · isplitl [Hbase]; · iexact Hbase
    iapply (hops_intro (F := F) c)
    isplitl [D] <;> iassumption
  iintro ⟨Hbase, Hh⟩
  ihave Hh' := (hops_elim (F := F) c) $$ Hh
  icases Hh' with ⟨ZR, Kp, C⟩
  iapply (lastHop_rule xg wg K c) $$ [Hbase D6]
  · isplitl [Hbase] <;> iassumption
  iintro ⟨Hbase, Hlast⟩
  ihave Hlast' := (Entails.of_eq (last_elim (F := F) c)) $$ Hlast
  icases Hlast' with ⟨ZR6, Pc, Kp6⟩
  ihave Kps := (show iprop(bands (keeps (F := F) c (6 : Fin 7).val) ∗ bigSep Finset.univ fun h : Fin 6 => bands (keeps (F := F) c h.castSucc.val))
      ⊢ bigSep Finset.univ fun o : Fin 7 => slE (axDev c o) c from
    (Entails.of_eq (grid_last (fun h s => keeps (F := F) c h.val s)).symm).trans (kept (F := F) c)) $$ [Kp6 Kp]
  · isplitl [Kp6] <;> iassumption
  ihave ZRs := (Entails.of_eq (grid_last (zeroR (F := F) c)).symm) $$ [ZR6 ZR]
  · isplitl [ZR6] <;> iassumption
  ihave Cs := (Entails.of_eq (grid_first (crdS (F := F) c)).symm) $$ [C0 C]
  · isplitl [C0] <;> iassumption
  unfold base
  icases Hbase with ⟨-, -, S0, S1, Ho⟩
  iapply (axPut_rule xg wg c) $$ Own
  iintro Own
  ihave Own' := (Entails.of_eq (slT_leaves (table xg wg) c c)) $$ Own
  icases Own' with ⟨Own, Lv⟩
  iapply (axSends_rule xg wg K c) $$ [Ho Lv Kps Hax]
  · isplitl [Ho]
    · isplitr; · iexact HR
      iexact Ho
    isplitl [Lv]; · iexact Lv
    isplitl [Kps] <;> iassumption
  iintro ⟨⟨-, Ho⟩, Cax⟩
  iapply (axWaits_rule xg wg K c) $$ [Ho Hdr]
  · isplitl [Ho]
    · unfold rest
      isplitr; · iexact HR
      isplitr; · iexact Hl
      iexact Ho
    iexact Hdr
  iintro ⟨Hrest, Zr, Far⟩
  iapply (axLoad_rule (table xg wg) c) $$ [Own Far]
  · isplitl [Own] <;> iassumption
  iintro ⟨Own, Far⟩
  iapply (results_rule xg wg c) $$ Hout
  iintro Hout
  iapply (axDones_rule xg wg K c) $$ [Hrest Cax Has]
  · isplitl [Hrest]; · iexact Hrest
    isplitl [Cax] <;> iassumption
  iintro ⟨Hrest, Zs, Lv⟩
  iapply (drain_rule xg wg K c) $$ [Hrest Cs Ha]
  · isplitl [Hrest]; · iexact Hrest
    iapply (Entails.of_eq (grid_sep (crdS (F := F) c) (atS c)).symm)
    isplitl [Cs] <;> iassumption
  iintro ⟨Hrest, Hz⟩
  ihave Hz' := (Entails.of_eq (grid_sep (zeroS (F := F) c) (fun h s => pcs c (srcSlot h) s))) $$ Hz
  icases Hz' with ⟨ZS, Pz⟩
  ihave Pcs := (pcs_close (F := F) c) $$ [Pc Pz]
  · isplitl [Pc] <;> iassumption
  icases Pcs with ⟨S2, S3⟩
  iapply Hk
  unfold rest bodyOut
  icases Hrest with ⟨-, -, Ho⟩
  isplitl [Ho]; · iexact Ho
  isplitl [Zb ZS ZRs Z0 Zs Zc Zr]
  · isplitl [Zb]; · iexact Zb
    isplitl [ZS]; · iexact ZS
    isplitl [ZRs]; · iexact ZRs
    isplitl [Z0 Zs]
    · isplitl [Z0] <;> iassumption
    isplitl [Zc] <;> iassumption
  isplitl [Hx]; · iexact Hx
  isplitl [Hw]; · iexact Hw
  isplitl [Hout]; · iexact Hout
  isplitl [S0]; · iexists _; iexact S0
  isplitl [S1]; · iexists _; iexact S1
  isplitl [S2]; · iexact S2
  isplitl [S3]; · iexact S3
  iapply (table_close (table xg wg) c)
  isplitl [Own Lv]
  · isplitl [Own] <;> iassumption
  iexact Far

end Cert.KernelIdeal.Ring
end
-- ==== Proof.KernelIdeal.Eq.lean ====
/-
  The printed body is the structured program: one operation after the other, both sides kept as an operation and
  what follows it.
-/
module

public import proofs.«01_k».proof.Proof.KernelIdeal.Prog

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F] [Named F]

theorem assocL {α β γ : Type} {p : P (F := F) α} {f : α → P (F := F) β} {g : β → P (F := F) γ} {q : P (F := F) γ}
    (h : (p >>= fun a => f a >>= g) = q) : (p >>= f) >>= g = q := (Prog.bind_assoc p f g).trans h
theorem assocR {α β γ : Type} {p : P (F := F) α} {f : α → P (F := F) β} {g : β → P (F := F) γ} {q : P (F := F) γ}
    (h : q = (p >>= fun a => f a >>= g)) : q = (p >>= f) >>= g := h.trans (Prog.bind_assoc p f g).symm
theorem retL {α β : Type} {a : α} {f : α → P (F := F) β} {q : P (F := F) β} (h : f a = q) : (pure a : P (F := F) α) >>= f = q := h
theorem retR {α β : Type} {a : α} {f : α → P (F := F) β} {q : P (F := F) β} (h : q = f a) : q = (pure a : P (F := F) α) >>= f := h
theorem opB {α β : Type} {e : TpuEff nD τ sig (Elt F) Λ₀ .tc α} {f g : α → P (F := F) β} (h : ∀ x, f x = g x) :
    (Prog.op e .ret : P (F := F) α) >>= f = (Prog.op e .ret : P (F := F) α) >>= g := congrArg _ (funext h)
theorem endB {α : Type} {p q : P (F := F) α} (h : p >>= pure = q >>= pure) : p = q :=
  (Prog.bind_pure p).symm.trans (h.trans (Prog.bind_pure q))
theorem retEnd (x y : PUnit) : (Prog.ret x : P (F := F) PUnit) = Prog.ret y := rfl

set_option maxRecDepth 1000000 in
set_option maxHeartbeats 4000000 in
theorem printed_eq : (printed : P (F := F) PUnit) = ringBody := by
  refine endB ?_
  repeat
    first
    | exact retEnd _ _
    | refine assocL ?_
    | refine assocR ?_
    | refine retL ?_
    | refine retR ?_
    | (refine opB ?_; intro x)

end Cert.KernelIdeal.Ring
end
-- ==== Proof.KernelIdeal.Run.lean ====
/-
  The launch: what every device is dealt, the invariants allocated for all devices at once, and the run of @main.
-/
module

public import proofs.«01_k».proof.Proof.KernelIdeal.Whole
public import proofs.«01_k».proof.Proof.KernelIdeal.Eq
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

/-! ## A device's cells and duties, kind by kind -/

theorem bool_split (Φ : Bool → sProp 𝕄) : bigSep Finset.univ Φ = iprop(Φ true ∗ Φ false) :=
  bigSep_univ_eq_bigSepL [true, false] (by decide) (by decide) Φ

abbrev KeySum : Type := Unit ⊕ (Fin 7 × Fin 4 × Bool) ⊕ (Fin 7 × Fin 4 × Bool) ⊕ Fin 8 ⊕ Dev nD
def keySum : KeySum ≃ Key where
  toFun
    | .inl _ => .bar
    | .inr (.inl i) => .send i.2.2 i.1 i.2.1
    | .inr (.inr (.inl i)) => .recv i.2.2 i.1 i.2.1
    | .inr (.inr (.inr (.inl o))) => .axs o
    | .inr (.inr (.inr (.inr t))) => .axr t
  invFun
    | .bar => .inl ()
    | .send d h s => .inr (.inl (h, s, d))
    | .recv d h s => .inr (.inr (.inl (h, s, d)))
    | .axs o => .inr (.inr (.inr (.inl o)))
    | .axr t => .inr (.inr (.inr (.inr t)))
  left_inv := by rintro (_ | _ | _ | _ | _) <;> rfl
  right_inv := by rintro (_ | _ | _ | _ | _) <;> rfl

theorem key_split (c : Dev nD) (Φ : Key → sProp 𝕄) : bigSep Finset.univ Φ
    = iprop(Φ .bar ∗ grid (fun (h : Fin 7) s => iprop(Φ (.send true h s) ∗ Φ (.send false h s))) ∗ grid (fun (h : Fin 7) s => iprop(Φ (.recv true h s) ∗ Φ (.recv false h s)))
      ∗ (Φ (.axs 0) ∗ bigSep Finset.univ fun o : Fin 7 => Φ (.axs o.succ)) ∗ Φ (.axr c) ∗ bigSep Finset.univ fun o => Φ (.axr (farDev c o))) := by
  rw [bigSep_univ_equiv keySum, bigSep_univ_sum, bigSep_univ_sum, bigSep_univ_sum, bigSep_univ_sum]
  simp only [bigSep_univ_prod, bool_split]
  rw [bigSep_univ_of_subsingleton (), fin8_split, dev_split c]
  rfl

abbrev TokSum : Type := Bool ⊕ (Fin 7 × Fin 4 × Bool × Bool) ⊕ (Fin 7 × Bool)
def tokSum : TokSum ≃ Tok where
  toFun
    | .inl b => .bar b
    | .inr (.inl (h, s, d, true)) => .src d h s
    | .inr (.inl (h, s, d, false)) => .land d h s
    | .inr (.inr (o, true)) => .axo o
    | .inr (.inr (o, false)) => .axl o
  invFun
    | .bar b => .inl b
    | .src d h s => .inr (.inl (h, s, d, true))
    | .land d h s => .inr (.inl (h, s, d, false))
    | .axo o => .inr (.inr (o, true))
    | .axl o => .inr (.inr (o, false))
  left_inv := by rintro (_ | ⟨_, _, _, _ | _⟩ | ⟨_, _ | _⟩) <;> rfl
  right_inv := by rintro (_ | _ | _ | _ | _) <;> rfl

theorem tok_split (Φ : Tok → sProp 𝕄) : bigSep Finset.univ Φ
    = iprop((Φ (.bar true) ∗ Φ (.bar false)) ∗ grid (fun (h : Fin 7) s => iprop((Φ (.src true h s) ∗ Φ (.land true h s)) ∗ Φ (.src false h s) ∗ Φ (.land false h s)))
      ∗ bigSep Finset.univ fun o : Fin 7 => iprop(Φ (.axo o) ∗ Φ (.axl o))) := by
  rw [bigSep_univ_equiv tokSum, bigSep_univ_sum, bigSep_univ_sum]
  simp only [bigSep_univ_prod, bool_split]
  rfl

/-! ## Semaphores -/

/-- The kernel's own semaphores: all but the barrier's. -/
abbrev Own : Type := {k : Key // k ≠ .bar}
abbrev osem (k : Own) : SemLoc sig := csem k.1

set_option maxRecDepth 100000 in
theorem own_scoped : ∀ k : Key, k ≠ .bar → (csem k).isScoped .tc = true := by decide +kernel
set_option maxRecDepth 100000 in
theorem own_stage : ∀ (k : Key) (w : Fin 3) (s : Fin (cfg0.spec w).nbuf), csem k ≠ .dma ((cfg0.spec w).sem s) := by decide +kernel
theorem ownSemFacts : Pipeline.OwnSemFacts cfg0.spec osem :=
  ⟨fun k => own_scoped k.1 k.2, fun k k' h => Subtype.ext (csem_inj h), fun k w s => own_stage k.1 w s⟩

theorem unscopedSems0_eq (c : Dev nD) : (unscopedSems0 c : sProp 𝕄) = zero c .bar := by
  unfold unscopedSems0; rw [bigSep_eq_bigSepL_of_eq [SemLoc.reg barS.sem] (by decide +kernel) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Key => zero c k : sProp 𝕄) := by
  rw [unscopedSems0_eq, bigSep_univ_split Key.bar, ← bigSep_subtype_ne]
  rfl

/-! ## What the launch deals -/

section

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged arguments. -/
def xg (c : Dev nD) : Vec F S4096x512 .bf16 := (win0_0.blk (0 : Fin 1)).view.read (Elt F) (m ((c : Thread nD τ).loc main_arg0))
def wg (c : Dev nD) : Vec F S512x2048 .bf16 := (win0_1.blk (0 : Fin 1)).view.read (Elt F) (m ((c : Thread nD τ).loc main_arg1))

abbrev Rd : Rounds.Schedule (GSem nD τ sig) Bool 𝕄 := ringRd (xg m) (wg m)

abbrev kcell (ck : Dev nD × Key) : GSem nD τ sig := cell ck.1 ck.2
theorem kcell_inj : Function.Injective kcell := fun a b h => Prod.ext (cell_inj h).1 (cell_inj h).2
def ringCells : Finset (GSem nD τ sig) := Finset.univ.map ⟨kcell, kcell_inj⟩

theorem toDev_inj (d : Bool) (c c' : Dev nD) (h : toDev c d = toDev c' d) : c = c' := by
  rw [← toDev_toDev c d, h, toDev_toDev]
theorem axDev_inj' (c : Dev nD) (o o' : Fin 7) (h : axDev c o = axDev c o') : o = o' := by
  revert c o o'; decide +kernel

abbrev tokOf (cj : Dev nD × Tok) : GSem nD τ sig × ℕ × Bool := (payCell cj.1 cj.2, 0, payDuty cj.2)
theorem tokOf_inj : Function.Injective tokOf := by
  rintro ⟨c, j⟩ ⟨c', j'⟩ h
  have hc := cell_inj (congrArg Prod.fst h)
  have hb : payDuty j = payDuty j' := congrArg (fun x => x.2.2) h
  obtain ⟨hd, hk⟩ := hc
  cases j <;> cases j' <;> simp only [payKey, payDev, payDuty, reduceCtorEq, Key.recv.injEq, Key.send.injEq, Key.axr.injEq, Key.axs.injEq] at hd hk hb
  · subst hb; rw [toDev_inj _ _ _ hd]
  · obtain ⟨rfl, rfl, rfl⟩ := hk; rw [toDev_inj _ _ _ hd]
  · obtain ⟨rfl, rfl, rfl⟩ := hk; subst hd; rfl
  · subst hk; rw [axDev_inj' _ _ _ hd]
  · subst hd; rw [Fin.succ_injective 7 hk]
def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Key => roundState ER (Rd m) (cell c k) 0)
    ∗ (bigSep Finset.univ fun k : Key => at0 c k) ∗ (bigSep Finset.univ fun k : Key => reached ER (cell c k) 0) ∗ bigSep Finset.univ fun j : Tok => tok c j)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Tok => tok c j := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- A device's positions and the tokens of the duties it pays. -/
def linear (c : Dev nD) : sProp 𝕄 := iprop((bigSep Finset.univ fun k : Key => at0 c k) ∗ bigSep Finset.univ fun j : Tok => tok c j)
/-- What the global step makes of it. -/
def G' (c : Dev nD) : sProp 𝕄 := iprop(∃ K, records (xg m) (wg m) K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : Key => reached ER (cell c k) 0) ∗ linear c) := by
  unfold G linear
  iintro ⟨Hos, Hus, Hst, Hat, Hr, Htok⟩
  ihave Hv := (Entails.of_eq (sems0_eq (F := F) c)) $$ [Hos Hus]
  · isplitl [Hus] <;> iassumption
  imod (show iprop((bigSep Finset.univ fun k : Key => zero c k) ∗ bigSep Finset.univ fun k : Key => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun k => iprop(∃ κ : ℕ, cellInv ER (Rd m) κ (cell c k)))
          ∗ (bigSep Finset.univ fun k : Key => reached ER (cell c k) 0) ∗ linear c) : sProp 𝕄)
      ⊢ bigSep Finset.univ (G' m) := by
  rw [bigSep_sep', bigSep_sep', ← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  iintro ⟨HI, #HR, Hl⟩
  ihave HK := (BI.bigSep_exists_pi Finset.univ (fun (ck : Dev nD × Key) (κ : ℕ) => (cellInv ER (Rd m) κ (cell ck.1 ck.2) : sProp 𝕄))) $$ HI
  icases HK with ⟨%K, #HI⟩
  iapply (show iprop(records (xg m) (wg m) K ∗ bigSep Finset.univ fun c : Dev nD => (linear c : sProp 𝕄)) ⊢ bigSep Finset.univ (G' m) from
    (sep_mono_left (BI.bigSep_of_persistent Finset.univ (records (xg m) (wg m) K))).trans (by
      rw [← bigSep_sep']
      exact big_mono fun c _ => by unfold G'; iintro H; iexists K; iexact H))
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- The cell of device `c`'s own that the duty is paid at, by whichever device. -/
def credKey (c : Dev nD) : Tok → Key
  | .bar _ => .bar
  | .land d h s => .recv d h s
  | .src d h s => .send d h s
  | .axl o => .axr (farDev c o.rev)
  | .axo o => .axs o.succ

theorem farDev_axDev (c : Dev nD) (o : Fin 7) : farDev (axDev c o) o.rev = c := by revert c o; decide +kernel

theorem payDev_inj (j : Tok) : Function.Injective fun c => payDev c j := by
  intro c c' h
  cases j with
  | bar b => exact toDev_inj _ _ _ h
  | land d _ _ => exact toDev_inj _ _ _ h
  | src _ _ _ => exact h
  | axl o => exact axDev_inj o c c' h
  | axo _ => exact h
theorem payKey_cred (c : Dev nD) (j : Tok) : payKey c j = credKey (payDev c j) j := by
  cases j <;> simp only [payKey, credKey, payDev]
  rw [farDev_axDev]

/-- The credit of device `c`'s own cells. -/
def credOf (c : Dev nD) : CellTallies nD τ sig Unit := ∑ j ∈ pend 1, tallyAt (cell c (credKey c j)) () (amountOf' (credKey c j))

def credAt (j : Tok) (c : Dev nD) : CellTallies nD τ sig Unit := tallyAt (cell c (credKey c j)) () (amountOf' (credKey c j))
theorem pay_eq (j : Tok) (d : Dev nD) : (tallyAt (payCell d j) () (payAmt d j) : CellTallies nD τ sig Unit) = credAt j (payDev d j) := by
  unfold payCell payAmt credAt; rw [payKey_cred]

theorem owed_sum : (∑ d, owedFrom 1 d) = ∑ d, credOf d := by
  have e (j : Tok) : ∑ d, (tallyAt (payCell d j) () (payAmt d j) : CellTallies nD τ sig Unit) = ∑ d, credAt j d := by
    rw [Finset.sum_congr rfl fun d _ => pay_eq j d]
    exact Function.Bijective.sum_comp (Finite.injective_iff_bijective.mp (payDev_inj j)) (credAt j)
  unfold owedFrom credOf
  rw [Finset.sum_comm, Finset.sum_congr rfl fun j _ => e j, Finset.sum_comm]
  rfl

theorem credOf_core (d : Dev nD) (g : GSem nD τ sig) (h : credOf d g ≠ 0) : g.1 = (d.tc : Thread nD τ) := by
  by_contra hg
  refine h ?_
  unfold credOf
  rw [Finset.sum_apply]
  refine Finset.sum_eq_zero fun j _ => ?_
  exact tallyAt_ne_cell (fun he => hg (congrArg Prod.fst he)) _ _

theorem crd_one (c : Dev nD) (k : Key) (h : dutyOf k = {false}) : (cred (tallyAt (cell c k) () (amountOf' k)) : sProp 𝕄) ⊢ crd c k := by
  unfold crd; rw [h, Finset.card_singleton, Nat.one_mul]

/-- The credit of one duty; none for those a device pays itself. -/
def credTok (c : Dev nD) (j : Tok) : sProp 𝕄 := if 1 ≤ rank j then cred (tallyAt (cell c (credKey c j)) () (amountOf' (credKey c j))) else iprop(emp)

theorem credTok_pos {c : Dev nD} {j : Tok} (h : 1 ≤ rank j) : (credTok c j : sProp 𝕄) = cred (tallyAt (cell c (credKey c j)) () (amountOf' (credKey c j))) := if_pos h
theorem rank_land (d : Bool) (h : Fin 7) (s : Fin 4) : 1 ≤ rank (.land d h s) := by revert d h s; decide +kernel
theorem rank_axl (o : Fin 7) : 1 ≤ rank (.axl o) := by revert o; decide +kernel

theorem credTok_land (c : Dev nD) (d : Bool) (h : Fin 7) (s : Fin 4) : (credTok c (.land d h s) : sProp 𝕄) ⊢ crd c (.recv d h s) :=
  (Entails.of_eq (credTok_pos (rank_land d h s))).trans (crd_one c (.recv d h s) rfl)
theorem credTok_axl (c : Dev nD) (o : Fin 7) : (credTok c (.axl o) : sProp 𝕄) ⊢ crd c (.axr (farDev c o.rev)) :=
  (Entails.of_eq (credTok_pos (rank_axl o))).trans (crd_one c (.axr (farDev c o.rev)) rfl)
theorem credTok_bar (c : Dev nD) : iprop(credTok c (.bar true) ∗ credTok c (.bar false)) ⊢ (crd c .bar : sProp 𝕄) := by
  rw [credTok_pos (by decide), credTok_pos (by decide)]
  refine (cred_add _ _).2.trans ?_
  show cred (tallyAt (cell c .bar) () 1 + tallyAt (cell c .bar) () 1) ⊢ _
  rw [tallyAt_add]
  exact Entails.refl _

theorem creds_grid (c : Dev nD) :
    grid (fun (h : Fin 7) s => iprop((credTok c (.src true h s) ∗ credTok c (.land true h s)) ∗ credTok c (.src false h s) ∗ credTok c (.land false h s)))
      ⊢ (grid (fun (h : Fin 7) s => iprop(crd c (.recv true h s) ∗ crd c (.recv false h s))) : sProp 𝕄) := by
  refine bigSep_mono fun h _ => bigSep_mono fun s _ => ?_
  show iprop((credTok c (.src true h s) ∗ credTok c (.land true h s)) ∗ credTok c (.src false h s) ∗ credTok c (.land false h s))
    ⊢ (iprop(crd c (.recv true h s) ∗ crd c (.recv false h s)) : sProp 𝕄)
  iintro ⟨⟨-, H1⟩, -, H0⟩
  isplitl [H1]
  · iapply (credTok_land c true h s); iexact H1
  · iapply (credTok_land c false h s); iexact H0

theorem creds_ax (c : Dev nD) :
    (bigSep Finset.univ fun o : Fin 7 => iprop(credTok c (.axo o) ∗ credTok c (.axl o)))
      ⊢ (bigSep Finset.univ fun o => crd c (.axr (farDev c o)) : sProp 𝕄) := by
  rw [bigSep_univ_equiv Fin.revPerm (fun o : Fin 7 => (crd c (.axr (farDev c o)) : sProp 𝕄))]
  refine bigSep_mono fun o _ => ?_
  show iprop(credTok c (.axo o) ∗ credTok c (.axl o)) ⊢ (crd c (.axr (farDev c o.rev)) : sProp 𝕄)
  iintro ⟨-, H⟩
  iapply (credTok_axl c o); iexact H

/-- What a device may wait for. -/
def hopes (c : Dev nD) : sProp 𝕄 :=
  iprop(crd c .bar ∗ grid (fun (h : Fin 7) s => iprop(crd c (.recv true h s) ∗ crd c (.recv false h s))) ∗ bigSep Finset.univ fun o => crd c (.axr (farDev c o)))

theorem creds (c : Dev nD) : (Pipeline.launchCred (owedFrom 1) c : sProp 𝕄) ⊢ hopes c := by
  rw [Pipeline.launchCred_of_sum (owedFrom 1) credOf owed_sum credOf_core c]
  unfold credOf
  rw [Pipeline.cred_finsetSum]
  unfold pend
  rw [bigSep_filter]
  show (bigSep Finset.univ fun j : Tok => credTok c j) ⊢ _
  rw [tok_split]
  unfold hopes
  iintro ⟨Hb, Hg, Ha⟩
  isplitl [Hb]; · iapply (credTok_bar c); iexact Hb
  isplitl [Hg]; · iapply (creds_grid c); iexact Hg
  iapply (creds_ax c); iexact Ha

end

end Cert.KernelIdeal.Ring
end
-- ==== Proof.KernelIdeal.Launched.lean ====
/-
  The pipeline's data for the one call, its body obligation, and the run of @main from any memory.
-/
module

public import proofs.«01_k».proof.Proof.KernelIdeal.Run
public import proofs.«01_k».proof.Proof.Gen.KernelIdeal.Points
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

/-- The one point of the grid. -/
abbrev t₀ : Fin cfg0.N := t0_0
theorem eq_t₀ (t : Fin cfg0.N) : t = t₀ := fin_N0 t

/-- The five scratch buffers at any contents. -/
def scratch (c : Dev nD) : sProp 𝕄 :=
  iprop(bufE c cc0_scratch0 ∗ bufE c cc0_scratch1 ∗ bufE c cc0_scratch2 ∗ bufE c cc0_scratch3 ∗ bufE c cc0_scratch4)

section

variable (m : (ℓ : Loc nD τ sig) → Buf (Elt F) ℓ) (ρ : Dev nD → PrngReg)

/-- What device `c`'s body starts from, beside its buffers. -/
def start (c : Dev nD) : sProp 𝕄 := iprop(G' m c ∗ hopes c ∗ levAts L lv)
def Φ₀ (c : Dev nD) : sProp 𝕄 := iprop(start m c ∗ scratch c)
/-- What it ends with: its scratch, and every semaphore at zero. -/
def Φ₁ (c : Dev nD) : sProp 𝕄 := iprop(scratch c ∗ bigSep Finset.univ fun k : Key => zero c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xg m c
    | ⟨1, _⟩ => wg m c
    | ⟨2, _⟩ => outAt (xg m) (wg m) c
  Φ t := match t with
    | ⟨0, _⟩ => Φ₀ m c
    | ⟨_ + 1, _⟩ => Φ₁ c
  q _ := fullShare
  owed t := match t with
    | ⟨0, _⟩ => owedFrom 1 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem start_body (K : Dev nD × Key → ℕ) (c : Dev nD) :
    iprop((records (xg m) (wg m) K ∗ linear c) ∗ hopes c ∗ levAts L lv ∗ scratch c ∗ ow' c 1
        ∗ buf c cc0_stg0_0 (xg m c) ∗ buf c cc0_stg1_0 (wg m c) ∗ bufE c cc0_stg2_0)
      ⊢ bodyIn (xg m) (wg m) K c := by
  unfold linear hopes scratch bodyIn
  rw [key_split c (fun k => (at0 c k : sProp 𝕄)), tok_split]
  iintro ⟨⟨HR, ⟨Hab, Has, Har, Hax, Hay, Haz⟩, ⟨Ht1, Ht0⟩, Htg, Hta⟩, ⟨Hcb, Hcg, Hca⟩, Hl, ⟨H0, H1, H2, H3, H4⟩, Ho, Hx, Hw, Hs⟩
  isplitl [HR]; · iexact HR
  isplitl [Hl]; · iexact Hl
  isplitl [Ho]; · iexact Ho
  isplitl [Ht1 Ht0 Hcb Hab]
  · isplitl [Ht0]; · iexact Ht0
    isplitl [Ht1]; · iexact Ht1
    unfold due
    isplitl [Hcb]; · iexact Hcb
    iexact Hab
  isplitl [Hcg Har Htg Has]
  · isplitl [Hcg Har]
    · iapply (show iprop(grid (fun (h : Fin 7) s => iprop(crd c (.recv true h s) ∗ crd c (.recv false h s))) ∗ grid (fun (h : Fin 7) s => iprop(at0 c (.recv true h s) ∗ at0 c (.recv false h s))))
          ⊢ (grid (dueR c) : sProp 𝕄) from by
        simp only [← bigSep_sep']
        refine bigSep_mono fun h _ => bigSep_mono fun s _ => ?_
        unfold dueR due
        show iprop((crd c (.recv true h s) ∗ crd c (.recv false h s)) ∗ at0 c (.recv true h s) ∗ at0 c (.recv false h s)) ⊢ (_ : sProp 𝕄)
        iintro ⟨⟨H1, H0⟩, H3, H2⟩
        isplitl [H1 H3]
        · isplitl [H1] <;> iassumption
        · isplitl [H0] <;> iassumption)
      isplitl [Hcg] <;> iassumption
    isplitl [Htg]; · iexact Htg
    iexact Has
  isplitl [Hta Hax Hay Haz Hca]
  · isplitl [Hta]; · iexact Hta
    isplitl [Hax]; · iexact Hax
    isplitl [Hay]; · iexact Hay
    unfold due
    rw [bigSep_sep']
    isplitl [Hca]; · iexact Hca
    iexact Haz
  isplitl [Hx]; · iexact Hx
  isplitl [Hw]; · iexact Hw
  isplitl [Hs]; · iexact Hs
  isplitl [H0]; · iexact H0
  isplitl [H1]; · iexact H1
  isplitl [H2]; · iexact H2
  isplitl [H3]; · iexact H3
  iexact H4

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xg m c) ∗ stg c cc0_stg1_0 (wg m c) ∗ stg c cc0_stg2_0 (outAt (xg m) (wg m) c))

theorem end_body (c : Dev nD) : bodyOut (xg m) (wg m) c ⊢ bodyPost m ρ c := by
  unfold bodyOut bodyPost Φ₁ scratch Dat.owesAt Pipeline.owesWithin ow'
  rw [key_split c (fun k => (zero c k : sProp 𝕄)), show (dats m ρ 0 c).owed t₀.succ = 0 from rfl, owedFrom_end]
  iintro ⟨⟨%W, Ho⟩, ⟨Hzb, Hzs, Hzr, Hza⟩, Hx, Hw, Hs, Hc⟩
  isplitl [Hzb Hzs Hzr Hza Hc]
  · isplitl [Hc]; · iexact Hc
    isplitl [Hzb]; · iexact Hzb
    isplitl [Hzs]; · iexact Hzs
    isplitl [Hzr]; · iexact Hzr
    iexact Hza
  isplitl [Ho]
  · iexists W
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hs

theorem sound_body (c : Dev nD) : bodyPre m ρ c ⊢ WP c printed (fun _ => bodyPost m ρ c) := by
  unfold bodyPre Φ₀ start G' Dat.owesAt Pipeline.owesWithin
  iintro ⟨⟨⟨⟨%K, Hg⟩, Hh, Hl⟩, Hsc⟩, ⟨%W, %hW, HO⟩, ⟨%d0, %g0, %hg0, Hx⟩, ⟨%d1, %g1, %hg1, Hw⟩, ⟨%d2, %g2, %hg2, Hs⟩⟩
  have hx : g0 = xg m c := by rw [hg0]; unfold Dat.before; rw [if_pos (fetch0_0 t₀)]; rfl
  have hw : g1 = wg m c := by rw [hg1]; unfold Dat.before; rw [if_pos (fetch0_1 t₀)]; rfl
  subst hx hw
  ihave Hb := (start_body m K c) $$ [Hg Hh Hl Hsc HO Hx Hw Hs]
  · isplitl [Hg]; · iexact Hg
    isplitl [Hh]; · iexact Hh
    isplitl [Hl]; · iexact Hl
    isplitl [Hsc]; · iexact Hsc
    isplitl [HO]; · unfold ow'; iexists W; iexact HO
    isplitl [Hx]; · iexact Hx
    isplitl [Hw]; · iexact Hw
    iexists g2; iexact Hs
  iapply (show bodyIn (xg m) (wg m) K c ⊢ WP c printed (fun _ => bodyPost m ρ c) from by
    rw [printed_eq, ← Prog.bind_pure (ringBody (F := F))]
    have h := body_rule (xg m) (wg m) K c pure (fun _ => bodyPost m ρ c)
    iintro H
    iapply h $$ H
    iintro H
    iapply (show bodyPost m ρ c ⊢ WP c (Prog.ret (PUnit.unit : PUnit)) (fun _ => bodyPost m ρ c) from by
      unfold WP; rw [wp_ret]; iintro H; imodintro; iexact H)
    iapply (end_body m ρ c); iexact H)
  iexact Hb

set_option maxRecDepth 100000 in
theorem body_obligation (c : Dev nD) : BodyObligation (dats (F := F) m ρ 0 c) (defs₀ (F := F)) 𝒱₀ () Set.univ := fun t => by
  rw [eq_t₀ t]
  rw [bigSep_W0, bigSep_W0]
  simp only [owns_whole_eq]
  show bodyPre m ρ c ⊢ WP c printed (fun _ => bodyPost m ρ c)
  exact sound_body m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedFrom 1) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0_eq]
  iintro ⟨Hr, Hu, Ho⟩
  isplitl [Hu]; · iexact Hu
  isplitl [Ho]; · iexact Ho
  iexact Hr

theorem rank_low (c : Dev nD) : ∀ j, 1 ≤ rank j → 0 < lvKey (payKey c j) := by revert c; decide +kernel
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 1 0 (le_of_eq (by unfold lv; rw [keyAt_none c _ fun k => own_stage k w s])) (rank_low c)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of @main on the eight devices terminates, with each device's result
    array at the computed contents, its arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedFrom 1) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end

end Cert.KernelIdeal.Ring
end
-- ==== Proof.Claims.lean ====
/-
  The frames of the three programs, read from their runs, and the named constant.
-/
module

public import proofs.«01_k».proof.Defs
public import proofs.«01_k».proof.Proof.Kernel.Launched
public import proofs.«01_k».proof.Proof.KernelIdeal.Launched
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_p : Cert.quiescent_Kernel := by
  intro m ρ _
  exact (θ_run Cert.Kernel.defs _ _).mono
    (fun _ h => ⟨fun c => ⟨(h.1 c (0 : Fin 3)).trans ((Cert.Kernel.Ring.dats (F := Bits) m ρ 0 c).arrAt_in (0 : Fin 3) rfl _),
      (h.1 c (1 : Fin 3)).trans ((Cert.Kernel.Ring.dats (F := Bits) m ρ 0 c).arrAt_in (1 : Fin 3) rfl _)⟩, h.2⟩)
    (Cert.Kernel.Ring.run_main (F := Bits) m ρ)

theorem frame_pi : Cert.quiescent_KernelIdeal := by
  intro m ρ _
  exact (θ_run Cert.KernelIdeal.defs _ _).mono
    (fun _ h => ⟨fun c => ⟨(h.1 c (0 : Fin 3)).trans ((Cert.KernelIdeal.Ring.dats (F := Ideal) m ρ 0 c).arrAt_in (0 : Fin 3) rfl _),
      (h.1 c (1 : Fin 3)).trans ((Cert.KernelIdeal.Ring.dats (F := Ideal) m ρ 0 c).arrAt_in (1 : Fin 3) rfl _)⟩, h.2⟩)
    (Cert.KernelIdeal.Ring.run_main (F := Ideal) m ρ)

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "s" .f32 0x39800801#32 ((4095⁻¹ : ℝ) : EReal) rfl

end Cert.Proof

end
-- ==== Proof.Value.Consts.lean ====
/-
  The float constants of the two programs as the extended reals they denote.
-/
module

public import Idealize.ShloMosaic.PureOps.Ideal

@[expose] public section

noncomputable section

namespace Cert.Value

open Idealize.ShloMosaic

theorem bits_4095 : Ideal.ofBits .f32 0x457FF000#32 = ((4095 : ℝ) : EReal) := by
  simp [Ideal.ofBits, Ideal.ieee, -EReal.coe_mul]; norm_num
theorem bits_32760 : Ideal.ofBits .f32 0x46FFF000#32 = ((32760 : ℝ) : EReal) := by
  simp [Ideal.ofBits, Ideal.ieee, -EReal.coe_mul]; norm_num
theorem bits_neg32760 : Ideal.ofBits .f32 0xC6FFF000#32 = ((-32760 : ℝ) : EReal) := by
  simp [Ideal.ofBits, Ideal.ieee, -EReal.coe_mul]; norm_num
theorem bits_half : Ideal.ofBits .f32 0x47000080#32 = ((32768.5 : ℝ) : EReal) := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num
theorem bits_zero : Ideal.ofBits .f32 0x00000000#32 = 0 := by simp [Ideal.ofBits, Ideal.ieee]
theorem bits_bot : Ideal.ofBits .f32 0xFF800000#32 = ⊥ := by simp [Ideal.ofBits, Ideal.ieee]

end Cert.Value
-- ==== Proof.Value.Scalars.lean ====
/-
  One element on the wire, and one element scaled: what packing two sixteen-bit codes in a word loses (nothing),
  and the two ways of scaling by the largest magnitude.
-/
module

public import proofs.«01_k».proof.Proof.Value.Consts

@[expose] public section

noncomputable section

namespace Cert.Value

open Idealize.ShloMosaic

/-- The code an element is sent as. -/
def code (v : EReal) : BitVec 32 :=
  Ideal.fptosi 32 (min (Ideal.ofBits .f32 0x46FFF000#32) (max (Ideal.ofBits .f32 0xC6FFF000#32) (v * Ideal.ofBits .f32 0x457FF000#32))
    + Ideal.ofBits .f32 0x47000080#32)
/-- An element after the wire. -/
def wire (v : EReal) : EReal :=
  Ideal.div ((((code v).toInt : ℝ) : EReal) - Ideal.ofBits .f32 0x47000000#32) (Ideal.ofBits .f32 0x457FF000#32)

theorem wire_eq_mul (v : EReal) :
    ((((code v).toInt : ℝ) : EReal) - Ideal.ofBits .f32 0x47000000#32) * (((4095 : ℝ)⁻¹ : ℝ) : EReal) = wire v := by
  unfold wire
  rw [bits_4095, Ideal.div_coe (by norm_num), one_div]

/-- A code fits sixteen bits. -/
theorem code_lt (v : EReal) : (code v).toNat < 65536 := by
  unfold code
  rw [bits_32760, bits_neg32760, bits_half]
  generalize hx : v * Ideal.ofBits .f32 0x457FF000#32 = x
  obtain ⟨r, hr, hl, hu⟩ : ∃ r : ℝ, min ((32760 : ℝ) : EReal) (max ((-32760 : ℝ) : EReal) x) = (r : EReal) ∧ -32760 ≤ r ∧ r ≤ 32760 := by
    have h1 : ((-32760 : ℝ) : EReal) ≤ min ((32760 : ℝ) : EReal) (max ((-32760 : ℝ) : EReal) x) :=
      le_min (by exact_mod_cast (by norm_num : (-32760 : ℝ) ≤ 32760)) (le_max_left _ _)
    have h2 : min ((32760 : ℝ) : EReal) (max ((-32760 : ℝ) : EReal) x) ≤ ((32760 : ℝ) : EReal) := min_le_left _ _
    generalize min ((32760 : ℝ) : EReal) (max ((-32760 : ℝ) : EReal) x) = y at h1 h2 ⊢
    induction y using EReal.rec with
    | bot => exact absurd h1 (by simp)
    | top => exact absurd h2 (by simp)
    | coe r => exact ⟨r, rfl, by exact_mod_cast h1, by exact_mod_cast h2⟩
  rw [hr, ← EReal.coe_add]
  unfold Ideal.fptosi
  rw [Ideal.toIntClamped_coe]
  have hpos : (0 : ℝ) ≤ r + 32768.5 := by linarith
  rw [if_pos hpos]
  have f0 : 0 ≤ ⌊r + 32768.5⌋ := Int.floor_nonneg.mpr hpos
  have f1 : ⌊r + 32768.5⌋ < 65536 := Int.floor_lt.mpr (by push_cast; linarith)
  generalize ⌊r + 32768.5⌋ = n at f0 f1 ⊢
  rw [BitVec.toNat_ofInt]
  norm_num
  omega

/-- The low and the high code of a packed word. -/
theorem low_code (a b : BitVec 32) (ha : a.toNat < 65536) (hb : b.toNat < 65536) : ((b <<< 16) ||| a) &&& 65535#32 = a := by
  refine BitVec.eq_of_getLsbD_eq fun i hi => ?_
  have e : (65535#32).getLsbD i = decide (i < 16) := by
    revert i; decide
  rw [BitVec.getLsbD_and, BitVec.getLsbD_or, BitVec.getLsbD_shiftLeft, e]
  by_cases h : i < 16
  · simp [h]
  · have : a.getLsbD i = false := Nat.testBit_lt_two_pow (lt_of_lt_of_le ha (by simpa using Nat.pow_le_pow_right (n := 2) (by decide) (Nat.le_of_not_lt h)))
    simp [h, this]
theorem high_code (a b : BitVec 32) (ha : a.toNat < 65536) (hb : b.toNat < 65536) :
    (BitVec.sshiftRight ((b <<< 16) ||| a) 16) &&& 65535#32 = b := by
  refine BitVec.eq_of_getLsbD_eq fun i hi => ?_
  have e : (65535#32).getLsbD i = decide (i < 16) := by
    revert i; decide
  rw [BitVec.getLsbD_and, e]
  by_cases h : i < 16
  · have hA : a.getLsbD (16 + i) = false := Nat.testBit_lt_two_pow (lt_of_lt_of_le ha (by simpa using Nat.pow_le_pow_right (n := 2) (by decide) (Nat.le_add_right 16 i)))
    have h2 : 16 + i < 32 := by omega
    rw [BitVec.getLsbD_sshiftRight, BitVec.getLsbD_or, BitVec.getLsbD_shiftLeft, hA]
    simp [h, h2, hi]
  · have : b.getLsbD i = false := Nat.testBit_lt_two_pow (lt_of_lt_of_le hb (by simpa using Nat.pow_le_pow_right (n := 2) (by decide) (Nat.le_of_not_lt h)))
    simp [h, this]

/-- An element clipped at the largest number of the narrow type. -/
def clip (v : EReal) : EReal := min (Ideal.ofBits .f32 0x43E00000#32) (max (Ideal.ofBits .f32 0xC3E00000#32) v)
/-- Scaling by `448 / g` is dividing by `g / 448`, as far as the product with `g / 448` tells. -/
theorem scaled (g y : EReal) :
    clip (y * Ideal.div (Ideal.ofBits .f32 0x43E00000#32) g) * Ideal.div g (Ideal.ofBits .f32 0x43E00000#32)
      = clip (Ideal.div y (Ideal.div g (Ideal.ofBits .f32 0x43E00000#32))) * Ideal.div g (Ideal.ofBits .f32 0x43E00000#32) := by
  rw [bits_448]
  have h448 : (448 : ℝ) ≠ 0 := by norm_num
  have hp : (0 : EReal) < (((1 / 448 : ℝ)) : EReal) := by exact_mod_cast (by norm_num : (0:ℝ) < 1 / 448)
  rw [Ideal.div_coe h448 g]
  induction g using EReal.rec with
  | bot =>
    rw [EReal.bot_mul_of_pos hp]
    simp [Ideal.div]
  | top =>
    rw [EReal.top_mul_of_pos hp]
    simp [Ideal.div]
  | coe r =>
    by_cases hr : r = 0
    · subst hr; simp
    · rw [Ideal.div_coe hr, ← EReal.coe_mul, ← EReal.coe_mul, Ideal.div_coe (by positivity)]
      congr 3
      congr 1
      field_simp

end Cert.Value
-- ==== Proof.Value.Model.lean ====
/-
  The sum both programs compute, at the extended reals: each block of rows goes round the ring of eight devices, in
  one direction for the first half of the columns and in the other for the second half, every device adding its own
  part of the product to what it receives off the wire.
-/
module

public import proofs.«01_k».proof.Proof.Value.Scalars
public import Idealize.ShloMosaic.Lib.ValueIdx
public import Idealize.ShloMosaic.Lib.ValueLayout

@[expose] public section

noncomputable section

namespace Cert.Value

open Idealize.ShloMosaic Idealize.ShloMosaic.ValueIdx

/-- The two arguments, whole. -/
abbrev MatX : Type := (⟨2, ![4096, 4096]⟩ : Shape).Idx → EReal
abbrev MatW : Type := (⟨2, ![4096, 2048]⟩ : Shape).Idx → EReal

/-- Entry `k` of block `c` of the contracted dimension. -/
def inner (c : Fin 8) (k : Fin 512) : Fin 4096 := ⟨512 * c.val + k.val, by omega⟩
/-- What device `c` contributes to an entry of the product. -/
def part (A : MatX) (B : MatW) (c : Fin 8) (r : Fin 4096) (n : Fin 2048) : EReal :=
  ∑ k : Fin 512, A (ix2 r (inner c k)) * B (ix2 (inner c k) n)

/-- The device `n` steps round the ring. -/
def go (d : Bool) (b : Fin 8) (n : ℕ) : Fin 8 := ⟨(b.val + (if d then n else 7 * n)) % 8, Nat.mod_lt _ (by decide)⟩
/-- The running sum of an entry of block `b` after `h` hops. -/
def ringSum (A : MatX) (B : MatW) (d : Bool) : ℕ → Fin 8 → Fin 4096 → Fin 2048 → EReal
  | 0, b, r, n => part A B (go d b 1) r n
  | h + 1, b, r, n => wire (ringSum A B d h b r n) + part A B (go d b (h + 2)) r n

/-- The block a row lies in. -/
def blockOf (r : Fin 4096) : Fin 8 := ⟨r.val / 512, by omega⟩
/-- The sum, entry by entry. -/
def total (A : MatX) (B : MatW) (r : Fin 4096) (n : Fin 2048) : EReal :=
  ringSum A B (decide (n.val < 1024)) 7 (blockOf r) r n

end Cert.Value
-- ==== Proof.Value.KerTiles.lean ====
/-
  The kernel's tiles at the extended reals: a tile of the product, and what a pair of tiles is after the wire.
-/
module

public import proofs.«01_k».proof.Proof.Value.Model
public import proofs.«01_k».proof.Proof.KernelIdeal.Common
public import Idealize.ShloMosaic.Lib.KernelVsHost
public import Idealize.ShloMosaic.Lib.Pipeline.Value
public import Idealize.ShloMosaic.PureOps.IdealRules

@[expose] public section

noncomputable section

namespace Cert.KernelIdeal.Ring

open Idealize.ShloMosaic Idealize.ShloMosaic.TcCoe Idealize.ShloMosaic.ValueIdx
open Cert.KernelIdeal Cert.KernelIdeal.Gen Cert.Value

/-! ## The wire -/

theorem shl_sixteen (x : BitVec 32) : IntOp.shli .vector x 16#32 = x <<< 16 := by
  unfold IntOp.shli; rw [if_pos (by decide)]; rfl
theorem shr_sixteen (x : BitVec 32) : IntOp.shrsi .vector x 16#32 = x.sshiftRight 16 := by
  unfold IntOp.shrsi; rw [if_pos (by decide)]; rfl

theorem unit_eq : @Eq EReal (wireUnit (F := Ideal)) (((4095 : ℝ)⁻¹ : ℝ) : EReal) := IdealRules.named_const.ideal_named_scalar _ _ _ _ rfl

theorem pack_apply (u v : FVec Ideal S128x512 .f32) (j : S128x512.Idx) : pack u v j = (code (v j) <<< 16) ||| code (u j) := by
  show IntOp.ori (IntOp.shli .vector (code (v j)) 16#32) (code (u j)) = _
  rw [shl_sixteen]; rfl

theorem dec_apply (w : IVec S128x512 32) (j : S128x512.Idx) (x : EReal) (h : w j = code x) : @Eq EReal (dec (F := Ideal) w j) (wire x) := by
  rw [← wire_eq_mul, ← unit_eq, ← h]; rfl

theorem lo_pack (u v : FVec Ideal S128x512 .f32) (j : S128x512.Idx) : @Eq EReal (lo (F := Ideal) (pack u v) j) (wire (u j)) := by
  refine dec_apply _ j _ ?_
  show IntOp.andi (pack u v j) 65535#32 = _
  rw [pack_apply]
  exact low_code _ _ (code_lt _) (code_lt _)
theorem hi_pack (u v : FVec Ideal S128x512 .f32) (j : S128x512.Idx) : @Eq EReal (hi (F := Ideal) (pack u v) j) (wire (v j)) := by
  refine dec_apply _ j _ ?_
  show IntOp.andi (IntOp.shrsi .vector (pack u v j) 16#32) 65535#32 = _
  rw [pack_apply, shr_sixteen]
  exact high_code _ _ (code_lt _) (code_lt _)

/-! ## The product -/

theorem mm_apply (a : FVec Ideal S128x512 .bf16) (b : FVec Ideal S512x512 .bf16) (i : Fin 128) (j : Fin 512) :
    @Eq EReal (mm (F := Ideal) a b (ix2 i j)) (∑ k : Fin 512, a (ix2 i k) * b (ix2 k j)) := by
  unfold mm
  show FloatOps.matmul dot_S128x512_S512x512_S128x512_1_0_0_1_n_n none a b (constant S128x512 .f32 0x00000000#32) (ix2 i j) = _
  rw [Ideal.matmul_apply, ← Equiv.sum_comp (contrEquiv1 dot_S128x512_S512x512_S128x512_1_0_0_1_n_n 512 rfl rfl).symm]
  have hz : @Eq EReal ((constant S128x512 .f32 0x00000000#32 : FVec Ideal S128x512 .f32) (ix2 i j)) 0 := bits_zero
  rw [hz, zero_add]
  refine Finset.sum_congr rfl fun k _ => ?_
  have hk := contrEquiv1_symm_val dot_S128x512_S512x512_S128x512_1_0_0_1_n_n 512 rfl rfl k
  have hl : dot_S128x512_S512x512_S128x512_1_0_0_1_n_n.lhsIdx (ix2 i j) ((contrEquiv1 _ 512 rfl rfl).symm k) = ix2 i k := by
    funext ax; apply Fin.ext
    match ax with
    | ⟨0, _⟩ => simp [DotDims.lhsIdx, dot_S128x512_S512x512_S128x512_1_0_0_1_n_n]; rfl
    | ⟨1, _⟩ => simp [DotDims.lhsIdx, dot_S128x512_S512x512_S128x512_1_0_0_1_n_n]; exact hk
  have hr : dot_S128x512_S512x512_S128x512_1_0_0_1_n_n.rhsIdx (ix2 i j) ((contrEquiv1 _ 512 rfl rfl).symm k) = ix2 k j := by
    funext ax; apply Fin.ext
    match ax with
    | ⟨0, _⟩ => simp [DotDims.rhsIdx, dot_S128x512_S512x512_S128x512_1_0_0_1_n_n]; exact hk
    | ⟨1, _⟩ => simp [DotDims.rhsIdx, dot_S128x512_S512x512_S128x512_1_0_0_1_n_n]; rfl
  rw [hl, hr]

/-! ## The places of the tiles -/

theorem toDev_go (c : Dev nD) (d : Bool) : toDev c d = go d c 1 := by revert c d; decide +kernel
theorem offX_at (c : Dev nD) (d : Bool) (h : Fin 7) (s : Fin 4) :
    offX c d h s 0 = 512 * (go (!d) c (h.val + 2)).val + 128 * s.val ∧ offX c d h s 1 = 0 := by revert c d h s; decide +kernel
theorem offX0_at (c : Dev nD) (d : Bool) (s : Fin 4) :
    offX0 c d s 0 = 512 * (go (!d) c 1).val + 128 * s.val ∧ offX0 c d s 1 = 0 := by revert c d s; decide +kernel

theorem go_go (d : Bool) (c : Fin 8) (a b : ℕ) : go d (go d c a) b = go d c (a + b) := by
  refine Fin.ext ?_
  cases d
  · show ((c.val + 7 * a) % 8 + 7 * b) % 8 = (c.val + 7 * (a + b)) % 8; omega
  · show ((c.val + a) % 8 + b) % 8 = (c.val + (a + b)) % 8; omega
theorem go_back (d : Bool) (c : Fin 8) (a : ℕ) : go d (go (!d) c a) a = c := by
  refine Fin.ext ?_
  have hc := c.isLt
  cases d
  · show ((c.val + a) % 8 + 7 * a) % 8 = c.val; omega
  · show ((c.val + 7 * a) % 8 + a) % 8 = c.val; omega
theorem go_eight (d : Bool) (c : Fin 8) : go d c 8 = c := by
  refine Fin.ext ?_
  have hc := c.isLt
  cases d
  · show (c.val + 7 * 8) % 8 = c.val; omega
  · show (c.val + 8) % 8 = c.val; omega

/-- The row and the column of an entry of a tile. -/
def row (b : Fin 8) (s : Fin 4) (i : Fin 128) : Fin 4096 := ⟨512 * b.val + 128 * s.val + i.val, by omega⟩
def col (q : Fin 4) (j : Fin 512) : Fin 2048 := ⟨512 * q.val + j.val, by omega⟩

section Tiles

variable (xg : Dev nD → FVec Ideal S4096x512 .bf16) (wg : Dev nD → FVec Ideal S512x2048 .bf16)

theorem xs_eq (c : Dev nD) : xs (F := Ideal) xg c = xg c := by
  unfold xs k0_pay1
  funext i
  exact (shapeCast_apply _ _ i i rfl).trans (shapeCast_apply _ _ i i rfl)
theorem ws_eq (c : Dev nD) : ws (F := Ideal) wg c = wg c := by
  unfold ws k0_pay2
  funext i
  exact (shapeCast_apply _ _ i i rfl).trans (shapeCast_apply _ _ i i rfl)

theorem rowTile (o : Fin 2 → Nat) (hb : ∀ a, o a + S128x512.size a ≤ S4096x512.size a) (X : FVec Ideal S4096x512 .bf16) (i : Fin 128) (k : Fin 512) (R : Fin 4096)
    (h0 : o 0 + i.val = R.val) (h1 : o 1 = 0) :
    xB.view.readAt (Elt Ideal) (Rect.unit (s := S4096x512) o S128x512.size hb).toLoadRect X (ix2 i k) = X (ix2 R k) := by
  show X _ = X _
  congr 1
  funext a
  apply Fin.ext
  match a with
  | ⟨0, _⟩ => show o 0 + 1 * i.val = R.val; omega
  | ⟨1, _⟩ => show o 1 + 1 * k.val = k.val; omega
theorem colTile (q : Fin 4) (W : FVec Ideal S512x2048 .bf16) (k j : Fin 512) :
    wB.view.readAt (Elt Ideal) (Rect.unit (s := S512x2048) ![0, 512 * q.val] S512x512.size (offW_inb q)).toLoadRect W (ix2 k j) = W (ix2 k (col q j)) := by
  show W _ = W _
  congr 1
  funext a
  apply Fin.ext
  match a with
  | ⟨0, _⟩ => show 0 + 1 * k.val = k.val; omega
  | ⟨1, _⟩ => show 512 * q.val + 1 * j.val = 512 * q.val + j.val; omega

theorem xT_apply (c : Dev nD) (d : Bool) (h : Fin 7) (s : Fin 4) (i : Fin 128) (k : Fin 512) :
    @Eq EReal (xT (F := Ideal) xg c d h s (ix2 i k)) (xg c (ix2 (row (go (!d) c (h.val + 2)) s i) k)) := by
  unfold xT
  rw [xs_eq]
  exact rowTile _ _ _ _ _ _ (by rw [(offX_at c d h s).1]; rfl) (offX_at c d h s).2
theorem xT0_apply (c : Dev nD) (d : Bool) (s : Fin 4) (i : Fin 128) (k : Fin 512) :
    @Eq EReal (xT0 (F := Ideal) xg c d s (ix2 i k)) (xg c (ix2 (row (go (!d) c 1) s i) k)) := by
  unfold xT0
  rw [xs_eq]
  exact rowTile _ _ _ _ _ _ (by rw [(offX0_at c d s).1]; rfl) (offX0_at c d s).2
theorem wT_apply (c : Dev nD) (q : Fin 4) (k j : Fin 512) : @Eq EReal (wT (F := Ideal) wg c q (ix2 k j)) (wg c (ix2 k (col q j))) := by
  unfold wT
  rw [ws_eq]
  exact colTile _ _ _ _

end Tiles

end Cert.KernelIdeal.Ring
-- ==== Proof.Value.KerSum.lean ====
/-
  The kernel's sum: what a hop carries is the running sum of `Cert.Value.ringSum` after the wire, and the tiles a
  device ends with are its rows of `Cert.Value.total`.
-/
module

public import proofs.«01_k».proof.Proof.Value.KerTiles

@[expose] public section

noncomputable section

namespace Cert.KernelIdeal.Ring

open Idealize.ShloMosaic Idealize.ShloMosaic.TcCoe Idealize.ShloMosaic.ValueIdx
open Cert.KernelIdeal Cert.KernelIdeal.Gen Cert.Value

variable (A : MatX) (B : MatW) (xg : Dev nD → FVec Ideal S4096x512 .bf16) (wg : Dev nD → FVec Ideal S512x2048 .bf16)
  (hX : ∀ (c : Fin 8) (R : Fin 4096) (k : Fin 512), @Eq EReal (xg c (ix2 R k)) (A (ix2 R (inner c k))))
  (hW : ∀ (c : Fin 8) (k : Fin 512) (n : Fin 2048), @Eq EReal (wg c (ix2 k n)) (B (ix2 (inner c k) n)))

include hX hW

theorem tile_apply (c : Fin 8) (d : Bool) (h : Fin 7) (s q : Fin 4) (i : Fin 128) (j : Fin 512) :
    @Eq EReal (mm (F := Ideal) (xT xg c d h s) (wT wg c q) (ix2 i j)) (part A B c (row (go (!d) c (h.val + 2)) s i) (col q j)) := by
  rw [mm_apply]
  unfold part
  refine Finset.sum_congr rfl fun k _ => ?_
  rw [xT_apply, wT_apply, hX, hW]
theorem tile0_apply (c : Fin 8) (d : Bool) (s q : Fin 4) (i : Fin 128) (j : Fin 512) :
    @Eq EReal (mm (F := Ideal) (xT0 xg c d s) (wT wg c q) (ix2 i j)) (part A B c (row (go (!d) c 1) s i) (col q j)) := by
  rw [mm_apply]
  unfold part
  refine Finset.sum_congr rfl fun k _ => ?_
  rw [xT0_apply, wT_apply, hX, hW]

/-- A hop's words, unpacked. -/
theorem sent_apply (n : ℕ) (hn : n ≤ 6) : ∀ (c : Fin 8) (d : Bool) (s : Fin 4) (i : Fin 128) (j : Fin 512),
    @Eq EReal (lo (F := Ideal) (sent (F := Ideal) xg wg n c d s) (ix2 i j)) (wire (ringSum A B d n (go (!d) c (n + 1)) (row (go (!d) c (n + 1)) s i) (col (qA d) j)))
    ∧ @Eq EReal (hi (F := Ideal) (sent (F := Ideal) xg wg n c d s) (ix2 i j)) (wire (ringSum A B d n (go (!d) c (n + 1)) (row (go (!d) c (n + 1)) s i) (col (qB d) j))) := by
  induction n with
  | zero =>
    intro c d s i j
    unfold sent ringSum
    rw [lo_pack, hi_pack, tile0_apply A B xg wg hX hW, tile0_apply A B xg wg hX hW, go_back]
    exact ⟨rfl, rfl⟩
  | succ n ih =>
    intro c d s i j
    have hd : (toDev c (!d) : Fin 8) = go (!d) c 1 := toDev_go c (!d)
    have hg : go (!d) (toDev c (!d)) (n + 1) = go (!d) c (n + 2) := by rw [hd, go_go, show 1 + (n + 1) = n + 2 by omega]
    have hv : (Fin.ofNat 7 n).val = n := Nat.mod_eq_of_lt (by omega)
    have I := ih (by omega) (toDev c (!d)) d s i j
    rw [hg] at I
    unfold sent ringSum
    rw [lo_pack, hi_pack, go_back]
    refine ⟨congrArg wire ?_, congrArg wire ?_⟩
    · show (lo (F := Ideal) _ (ix2 i j) : EReal) + mm (F := Ideal) (xT xg c d (Fin.ofNat 7 n) s) (wT wg c (qA d)) (ix2 i j) = _
      rw [I.1, tile_apply A B xg wg hX hW, hv]
    · show (hi (F := Ideal) _ (ix2 i j) : EReal) + mm (F := Ideal) (xT xg c d (Fin.ofNat 7 n) s) (wT wg c (qB d)) (ix2 i j) = _
      rw [I.2, tile_apply A B xg wg hX hW, hv]

/-- The last hop's tiles. -/
theorem last_apply (c : Fin 8) (d : Bool) (s : Fin 4) (i : Fin 128) (j : Fin 512) :
    @Eq EReal (sumA (F := Ideal) xg wg (landed (F := Ideal) xg wg 6 c d s) c d 6 s (ix2 i j)) (ringSum A B d 7 c (row c s i) (col (qA d) j))
    ∧ @Eq EReal (sumB (F := Ideal) xg wg (landed (F := Ideal) xg wg 6 c d s) c d 6 s (ix2 i j)) (ringSum A B d 7 c (row c s i) (col (qB d) j)) := by
  have hd : (toDev c (!d) : Fin 8) = go (!d) c 1 := toDev_go c (!d)
  have hg : go (!d) (toDev c (!d)) (6 + 1) = c := by rw [hd, go_go]; exact go_eight (!d) c
  have I := sent_apply A B xg wg hX hW 6 (by omega) (toDev c (!d)) d s i j
  rw [hg] at I
  have T := fun q => tile_apply A B xg wg hX hW c d 6 s q i j
  have h8 : go (!d) c ((6 : Fin 7).val + 2) = c := go_eight (!d) c
  rw [h8] at T
  have e : go d c (6 + 2) = c := go_eight d c
  have r : ∀ R N, ringSum A B d 7 c R N = wire (ringSum A B d 6 c R N) + part A B c R N := by
    intro R N
    show wire (ringSum A B d 6 c R N) + part A B (go d c (6 + 2)) R N = _
    rw [e]
  rw [r, r, ← I.1, ← I.2, ← T, ← T]
  exact ⟨rfl, rfl⟩

theorem total_at (c : Fin 8) (s : Fin 4) (i : Fin 128) (q : Fin 4) (j : Fin 512) (d : Bool) (hq : decide (q.val < 2) = d) :
    total A B (row c s i) (col q j) = ringSum A B d 7 c (row c s i) (col q j) := by
  unfold total
  have hb : blockOf (row c s i) = c := Fin.ext (by show (512 * c.val + 128 * s.val + i.val) / 512 = c.val; omega)
  have hc : decide ((col q j).val < 1024) = d := by
    rw [← hq]
    exact decide_eq_decide.mpr (by show 512 * q.val + j.val < 1024 ↔ q.val < 2; omega)
  rw [hb, hc]

/-- A device's rows of the sum. -/
theorem yAt_apply (c : Fin 8) (s q : Fin 4) (i : Fin 128) (j : Fin 512) :
    @Eq EReal (yAt (F := Ideal) xg wg c s q (ix2 i j)) (total A B (row c s i) (col q j)) := by
  have h : ∀ s : Fin 4, @Eq EReal (tileAt (F := Ideal) xg wg c 6 s q (ix2 i j)) (total A B (row c s i) (col q j)) := by
    intro s
    have L := fun d => last_apply A B xg wg hX hW c d s i j
    have T := total_at A B xg wg hX hW c s i q j
    match q with
    | ⟨0, _⟩ => exact (L true).1.trans (T true rfl).symm
    | ⟨1, _⟩ => exact (L true).2.trans (T true rfl).symm
    | ⟨2, _⟩ => exact (L false).1.trans (T false rfl).symm
    | ⟨3, _⟩ => exact (L false).2.trans (T false rfl).symm
  match s with
  | ⟨0, _⟩ => exact h 0
  | ⟨1, _⟩ => exact h 1
  | ⟨2, _⟩ => exact h 2
  | ⟨3, _⟩ => exact h 3

end Cert.KernelIdeal.Ring
-- ==== Proof.Value.KerMax.lean ====
/-
  The kernel's largest magnitude is the least upper bound of the magnitudes, and its result scales by it.
-/
module

public import proofs.«01_k».proof.Proof.Value.KerSum
public import proofs.«01_k».proof.Proof.KernelIdeal.Finish
public import Idealize.ShloMosaic.PureOps.Reduce

@[expose] public section

noncomputable section

namespace Cert.KernelIdeal.Ring

open Idealize.ShloMosaic Idealize.ShloMosaic.TcCoe Idealize.ShloMosaic.ValueIdx
open Cert.KernelIdeal Cert.KernelIdeal.Gen Cert.Value

instance : Std.Commutative (FloatOps.maximumf : Ideal .f32 → Ideal .f32 → Ideal .f32) := ⟨fun a b => max_comm (a : EReal) b⟩
instance : Std.Associative (FloatOps.maximumf : Ideal .f32 → Ideal .f32 → Ideal .f32) := ⟨fun a b c => max_assoc (a : EReal) b c⟩

theorem one_idx (i j : S1.Idx) : i = j := funext fun a => Fin.ext (by
  match a with
  | ⟨0, _⟩ =>
    have hi : (i 0).val < 1 := (i 0).isLt
    have hj : (j 0).val < 1 := (j 0).isLt
    show (i 0).val = (j 0).val
    omega)

/-- The maximum of everything, bounded. -/
theorem red_le {s : Shape} {axes : List (Fin s.rank)} (src : FVec Ideal s .f32) (h : s.Reduces axes S1) (hφ : FKind.Formats .f32)
    (hacc : (0xFF800000#32 : BitVec 32) = FKind.maximumf.neutral .f32 hφ) (j : S1.Idx) (b : EReal) :
    @LE.le EReal _ (multiReduction .maximumf axes S1 src 0xFF800000#32 h hφ hacc j) b ↔ ∀ i, @LE.le EReal _ (src i) b := by
  have e : @Eq EReal (multiReduction .maximumf axes S1 src 0xFF800000#32 h hφ hacc j)
      (Finset.univ.fold (fun a b : EReal => max a b) (⊥ : EReal) (fun i => (src i : EReal))) := by
    rw [multiReduction_maximumf_eq_reduceFold, reduceFold_eq_fold, Finset.filter_true_of_mem (fun i _ => one_idx _ _)]
    show @Eq EReal (Finset.fold _ (Ideal.ofBits .f32 0xFF800000#32) _ _) _
    rw [bits_bot]
    rfl
  rw [e, Finset.fold_max_le]
  exact ⟨fun hh i => hh.2 i (Finset.mem_univ _), fun hh => ⟨bot_le, fun i _ => hh i⟩⟩

theorem cast_le {s t : Shape} (x : FVec Ideal s .f32) (h : s.ShapeCasts t) (b : EReal) :
    (∀ j, @LE.le EReal _ (shapeCast t x h j) b) ↔ ∀ i, @LE.le EReal _ (x i) b := by
  unfold shapeCast
  exact ⟨fun hh i => by have := hh ((Shape.reshapeEquiv h).symm i); rwa [Equiv.apply_symm_apply] at this, fun hh j => hh _⟩

theorem pick {t : Shape} (x : FVec Ideal S1 .f32) (h : S1.ShapeCasts t) (pos : Fin t.rank → Nat) (hp : ∀ a, pos a < t.size a) :
    extractAt pos (shapeCast t x h) hp = x (ix1 (0 : Fin 1)) := by
  unfold extractAt shapeCast
  exact congrArg x (one_idx _ _)

theorem tileMax_le (v : FVec Ideal S128x512 .f32) (b : EReal) :
    @LE.le EReal _ (tileMax (F := Ideal) v) b ↔ ∀ i j, max (v (ix2 i j) : EReal) (-(v (ix2 i j) : EReal)) ≤ b := by
  unfold tileMax
  rw [pick]
  refine (red_le _ _ _ _ _ b).trans ((cast_le _ _ b).trans ⟨fun h i j => h (ix2 i j), fun h i => ?_⟩)
  exact (congrArg (fun i => max (v i : EReal) (-(v i : EReal))) (eq_ix2 i)).le.trans (h _ _)

/-- Sixteen numbers, four by four, as one-element pieces. -/
def pieces {α : Type} (g : Fin 4 → Fin 4 → α) : List ((s : Shape) × (s.Idx → α)) :=
  [⟨S1, broadcast S1 (g 0 0)⟩, ⟨S1, broadcast S1 (g 0 1)⟩, ⟨S1, broadcast S1 (g 0 2)⟩, ⟨S1, broadcast S1 (g 0 3)⟩,
    ⟨S1, broadcast S1 (g 1 0)⟩, ⟨S1, broadcast S1 (g 1 1)⟩, ⟨S1, broadcast S1 (g 1 2)⟩, ⟨S1, broadcast S1 (g 1 3)⟩,
    ⟨S1, broadcast S1 (g 2 0)⟩, ⟨S1, broadcast S1 (g 2 1)⟩, ⟨S1, broadcast S1 (g 2 2)⟩, ⟨S1, broadcast S1 (g 2 3)⟩,
    ⟨S1, broadcast S1 (g 3 0)⟩, ⟨S1, broadcast S1 (g 3 1)⟩, ⟨S1, broadcast S1 (g 3 2)⟩, ⟨S1, broadcast S1 (g 3 3)⟩]

theorem pieces_get {α : Type} (g : Fin 4 → Fin 4 → α) (s q : Fin 4) (h : 4 * s.val + q.val < (pieces g).length) :
    (pieces g)[4 * s.val + q.val] = ⟨S1, broadcast S1 (g s q)⟩ := by
  fin_cases s <;> fin_cases q <;> rfl

theorem pieces_before {α : Type} (g : Fin 4 → Fin 4 → α) (k : ℕ) (hk : k < 16) :
    (((pieces g).take k).map (·.1) |>.map
      fun s => if h : s.rank = S16.rank then s.size ((0 : Fin S16.rank).cast h.symm) else 0).sum = k := by
  rw [List.map_take, show (pieces g).map (·.1) = List.replicate 16 S1 from rfl, List.take_replicate, List.map_replicate, List.sum_replicate,
    Nat.min_eq_left hk.le]
  exact Nat.mul_one k

theorem pieces_apply {α : Type} (g : Fin 4 → Fin 4 → α) (h : Shape.Concatenates ((pieces g).map (·.1)) S16 0) (s q : Fin 4) :
    concatenate S16 0 (pieces g) h (ix1 (⟨4 * s.val + q.val, by omega⟩ : Fin 16)) = g s q := by
  refine (concatenate_apply_piece (t := S16) 0 (pieces g) h (ix1 (⟨4 * s.val + q.val, by omega⟩ : Fin 16)) (4 * s.val + q.val)
    (by simp [pieces]; omega) S1 (broadcast S1 (g s q)) (pieces_get g s q _) rfl _ (pieces_before g _ (by omega)) (ix1 (0 : Fin 1)) (fun b hb => ?_) rfl)
  match b with
  | ⟨0, _⟩ => exact absurd rfl hb

/-- The sixteen maxima side by side. -/
def sixteen (y : Fin 4 → Fin 4 → FVec Ideal S128x512 .f32) : FVec Ideal S16 .f32 :=
  concatenate S16 0 [⟨S1, broadcast S1 (tileMax (y 0 0))⟩, ⟨S1, broadcast S1 (tileMax (y 0 1))⟩, ⟨S1, broadcast S1 (tileMax (y 0 2))⟩, ⟨S1, broadcast S1 (tileMax (y 0 3))⟩,
      ⟨S1, broadcast S1 (tileMax (y 1 0))⟩, ⟨S1, broadcast S1 (tileMax (y 1 1))⟩, ⟨S1, broadcast S1 (tileMax (y 1 2))⟩, ⟨S1, broadcast S1 (tileMax (y 1 3))⟩,
      ⟨S1, broadcast S1 (tileMax (y 2 0))⟩, ⟨S1, broadcast S1 (tileMax (y 2 1))⟩, ⟨S1, broadcast S1 (tileMax (y 2 2))⟩, ⟨S1, broadcast S1 (tileMax (y 2 3))⟩,
      ⟨S1, broadcast S1 (tileMax (y 3 0))⟩, ⟨S1, broadcast S1 (tileMax (y 3 1))⟩, ⟨S1, broadcast S1 (tileMax (y 3 2))⟩, ⟨S1, broadcast S1 (tileMax (y 3 3))⟩]
      concatenates_S1_S1_S1_S1_S1_S1_S1_S1_S1_S1_S1_S1_S1_S1_S1_S1_S16_d0

theorem sixteen_apply (y : Fin 4 → Fin 4 → FVec Ideal S128x512 .f32) (s q : Fin 4) :
    sixteen y (ix1 (⟨4 * s.val + q.val, by omega⟩ : Fin 16)) = tileMax (F := Ideal) (y s q) := by
  unfold sixteen
  exact pieces_apply (fun s q => tileMax (F := Ideal) (y s q)) concatenates_S1_S1_S1_S1_S1_S1_S1_S1_S1_S1_S1_S1_S1_S1_S1_S1_S16_d0 s q

theorem sixteen_le (y : Fin 4 → Fin 4 → FVec Ideal S128x512 .f32) (b : EReal) :
    (∀ i, @LE.le EReal _ (sixteen y i) b) ↔ ∀ s q, @LE.le EReal _ (tileMax (F := Ideal) (y s q)) b := by
  constructor
  · intro h s q
    exact (sixteen_apply y s q).symm.le.trans (h _)
  · intro h i
    have hk : (i 0).val < 16 := (i 0).isLt
    have hi : i = ix1 (⟨4 * ((i 0).val / 4) + (i 0).val % 4, by omega⟩ : Fin 16) :=
      (eq_ix1 i).trans (congrArg ix1 (Fin.ext (by show (i 0).val = 4 * ((i 0).val / 4) + (i 0).val % 4; omega)))
    have e := (congrArg (sixteen y) hi).trans (sixteen_apply y ⟨(i 0).val / 4, by omega⟩ ⟨(i 0).val % 4, by omega⟩)
    exact e.le.trans (h _ _)

theorem blockMax_le (y : Fin 4 → Fin 4 → FVec Ideal S128x512 .f32) (i : S1x8x128.Idx) (b : EReal) :
    @LE.le EReal _ (blockMax (F := Ideal) y i) b ↔ ∀ s q, @LE.le EReal _ (tileMax (F := Ideal) (y s q)) b := by
  unfold blockMax
  rw [shapeCast_apply _ _ i i rfl, broadcast_apply, pick]
  exact (red_le _ _ _ _ _ b).trans ((cast_le (sixteen y) _ b).trans (sixteen_le y b))

theorem allMax_le (a : FVec Ideal S8x8x128 .f32) (b : EReal) :
    @LE.le EReal _ (allMax (F := Ideal) a) b ↔ ∀ i, @LE.le EReal _ (a i) b := by
  unfold allMax
  rw [pick]
  exact (red_le _ _ _ _ _ b).trans (cast_le a _ b)

theorem quant_apply (g : Ideal .f32) (v : FVec Ideal S128x512 .f32) (j : S128x512.Idx) :
    @Eq EReal (quant (F := Ideal) g v j) (clip (v j * Ideal.div (Ideal.ofBits .f32 0x43E00000#32) g) * Ideal.div g (Ideal.ofBits .f32 0x43E00000#32)) := rfl

section Whole

variable (A : MatX) (B : MatW) (xg : Dev nD → FVec Ideal S4096x512 .bf16) (wg : Dev nD → FVec Ideal S512x2048 .bf16)
  (hX : ∀ (c : Fin 8) (R : Fin 4096) (k : Fin 512), @Eq EReal (xg c (ix2 R k)) (A (ix2 R (inner c k))))
  (hW : ∀ (c : Fin 8) (k : Fin 512) (n : Fin 2048), @Eq EReal (wg c (ix2 k n)) (B (ix2 (inner c k) n)))

include hX hW

theorem gmax_le (b : EReal) : @LE.le EReal _ (gmax (F := Ideal) xg wg) b ↔ ∀ R n, max (total A B R n) (-(total A B R n)) ≤ b := by
  unfold gmax
  rw [allMax_le]
  constructor
  · intro h R n
    have h1 := h (ix3 (blockOf R) 0 0)
    have h2 := (blockMax_le (yAt (F := Ideal) xg wg (blockOf R)) _ b).mp h1 ⟨R.val % 512 / 128, by omega⟩ ⟨n.val / 512, by omega⟩
    have h3 := (tileMax_le _ b).mp h2 ⟨R.val % 128, by omega⟩ ⟨n.val % 512, by omega⟩
    rw [yAt_apply A B xg wg hX hW] at h3
    have hR : row (blockOf R) ⟨R.val % 512 / 128, by omega⟩ ⟨R.val % 128, by omega⟩ = R :=
      Fin.ext (by show 512 * (R.val / 512) + 128 * (R.val % 512 / 128) + R.val % 128 = R.val; omega)
    have hn : col ⟨n.val / 512, by omega⟩ ⟨n.val % 512, by omega⟩ = n := Fin.ext (by show 512 * (n.val / 512) + n.val % 512 = n.val; omega)
    rwa [hR, hn] at h3
  · intro h i
    refine (blockMax_le (yAt (F := Ideal) xg wg (i 0)) _ b).mpr fun s q => (tileMax_le _ b).mpr fun k j => ?_
    exact (congrArg (fun z : EReal => max z (-z)) (yAt_apply A B xg wg hX hW (i 0) s q k j)).le.trans (h _ _)

/-- An entry of a device's result. -/
theorem outAt_apply (c : Fin 8) (r : Fin 512) (n : Fin 2048) :
    @Eq EReal (outAt (F := Ideal) xg wg c (ix2 r n))
      (clip (total A B ⟨512 * c.val + r.val, by omega⟩ n * Ideal.div (Ideal.ofBits .f32 0x43E00000#32) (gmax (F := Ideal) xg wg))
        * Ideal.div (gmax (F := Ideal) xg wg) (Ideal.ofBits .f32 0x43E00000#32)) := by
  have hi : (fun | 0 => ⟨r.val % 128, Nat.mod_lt _ (by decide)⟩ | 1 => ⟨n.val % 512, Nat.mod_lt _ (by decide)⟩ : S128x512.Idx)
      = ix2 (⟨r.val % 128, Nat.mod_lt _ (by decide)⟩ : Fin 128) (⟨n.val % 512, Nat.mod_lt _ (by decide)⟩ : Fin 512) := eq_ix2 _
  have e := quant_apply (gmax (F := Ideal) xg wg) (yAt (F := Ideal) xg wg c ⟨r.val / 128, by omega⟩ ⟨n.val / 512, by omega⟩)
    (ix2 (⟨r.val % 128, Nat.mod_lt _ (by decide)⟩ : Fin 128) (⟨n.val % 512, Nat.mod_lt _ (by decide)⟩ : Fin 512))
  rw [yAt_apply A B xg wg hX hW] at e
  have hR : row c ⟨r.val / 128, by omega⟩ ⟨r.val % 128, Nat.mod_lt _ (by decide)⟩ = ⟨512 * c.val + r.val, by omega⟩ :=
    Fin.ext (by show 512 * c.val + 128 * (r.val / 128) + r.val % 128 = 512 * c.val + r.val; omega)
  have hn : col ⟨n.val / 512, by omega⟩ ⟨n.val % 512, Nat.mod_lt _ (by decide)⟩ = n := Fin.ext (by show 512 * (n.val / 512) + n.val % 512 = n.val; omega)
  rw [hR, hn] at e
  rw [← e, ← hi]
  rfl

end Whole

end Cert.KernelIdeal.Ring
-- ==== Proof.Value.RefSteps.lean ====
/-
  The reference's sum as seven steps of one shape in each direction.
-/
module

public import proofs.«01_k».proof.Proof.Value.Model
public import proofs.«01_k».proof.Proof.Gen.ReferenceIdeal.Run

@[expose] public section

noncomputable section

namespace Cert.ReferenceIdeal.Whole

open Idealize.ShloMosaic Idealize.ShloMosaic.TcCoe Idealize.ShloMosaic.ValueIdx Idealize.ShloMosaic.StableHlo
open Cert.ReferenceIdeal Cert.ReferenceIdeal.Gen Cert.ReferenceIdeal.Value Cert.Value

section Shape

variable {F : FTy → Type} [FloatOps F]

/-- The wire of the reference, and one step of its sum. -/
def wireV (v : FVec F S8x512x1024 .f32) : FVec F S8x512x1024 .f32 :=
  Host.divf (subf (sitofp .f32 (fptosi 32 (addf (minimumf (broadcastInDim S8x512x1024 ![] bcast_S_S8x512x1024 (id (constant S_ .f32 0x46FFF000#32)))
    (maximumf (broadcastInDim S8x512x1024 ![] bcast_S_S8x512x1024 (id (constant S_ .f32 0xC6FFF000#32)))
      (mulf v (broadcastInDim S8x512x1024 ![] bcast_S_S8x512x1024 (constant S_ .f32 0x457FF000#32)))))
    (broadcastInDim S8x512x1024 ![] bcast_S_S8x512x1024 (constant S_ .f32 0x47000080#32)))))
    (broadcastInDim S8x512x1024 ![] bcast_S_S8x512x1024 (constant S_ .f32 0x47000000#32)))
    (broadcastInDim S8x512x1024 ![] bcast_S_S8x512x1024 (constant S_ .f32 0x457FF000#32))
def step (v p : FVec F S8x512x1024 .f32) : FVec F S8x512x1024 .f32 := addf (wireV v) p
def joined (l r : FVec F S8x512x1024 .f32) : FVec F S4096x2048 .f32 :=
  concatenate S4096x2048 1 [⟨S4096x1024, shapeCast _ l shapeCasts_S8x512x1024_S4096x1024⟩, ⟨S4096x1024, shapeCast _ r shapeCasts_S8x512x1024_S4096x1024⟩]
    concatenates_S4096x1024_S4096x1024_S4096x2048_d1

theorem sum_eq (V : Valuation τ sig (Elt F)) : res_main_v191 V = joined
    (step (step (step (step (step (step (step
      (Host.slice S8x512x1024 ![8, 0, 0] ![9, 1, 1] (res_main_v4 V) slicesBy_S128x512x2048_S8x512x1024_8s9_0s1_0s1)
      (Host.slice S8x512x1024 ![16, 0, 0] ![9, 1, 1] (res_main_v4 V) slicesBy_S128x512x2048_S8x512x1024_16s9_0s1_0s1))
      (Host.slice S8x512x1024 ![24, 0, 0] ![9, 1, 1] (res_main_v4 V) slicesBy_S128x512x2048_S8x512x1024_24s9_0s1_0s1))
      (Host.slice S8x512x1024 ![32, 0, 0] ![9, 1, 1] (res_main_v4 V) slicesBy_S128x512x2048_S8x512x1024_32s9_0s1_0s1))
      (Host.slice S8x512x1024 ![40, 0, 0] ![9, 1, 1] (res_main_v4 V) slicesBy_S128x512x2048_S8x512x1024_40s9_0s1_0s1))
      (Host.slice S8x512x1024 ![48, 0, 0] ![9, 1, 1] (res_main_v4 V) slicesBy_S128x512x2048_S8x512x1024_48s9_0s1_0s1))
      (Host.slice S8x512x1024 ![56, 0, 0] ![9, 1, 1] (res_main_v4 V) slicesBy_S128x512x2048_S8x512x1024_56s9_0s1_0s1))
      (Host.slice S8x512x1024 ![64, 0, 0] ![9, 1, 1] (res_main_v4 V) slicesBy_S128x512x2048_S8x512x1024_64s9_0s1_0s1))
    (step (step (step (step (step (step (step
      (Host.slice S8x512x1024 ![56, 0, 1024] ![9, 1, 1] (res_main_v4 V) slicesBy_S128x512x2048_S8x512x1024_56s9_0s1_1024s1)
      (Host.slice S8x512x1024 ![48, 0, 1024] ![9, 1, 1] (res_main_v4 V) slicesBy_S128x512x2048_S8x512x1024_48s9_0s1_1024s1))
      (Host.slice S8x512x1024 ![40, 0, 1024] ![9, 1, 1] (res_main_v4 V) slicesBy_S128x512x2048_S8x512x1024_40s9_0s1_1024s1))
      (Host.slice S8x512x1024 ![32, 0, 1024] ![9, 1, 1] (res_main_v4 V) slicesBy_S128x512x2048_S8x512x1024_32s9_0s1_1024s1))
      (Host.slice S8x512x1024 ![24, 0, 1024] ![9, 1, 1] (res_main_v4 V) slicesBy_S128x512x2048_S8x512x1024_24s9_0s1_1024s1))
      (Host.slice S8x512x1024 ![16, 0, 1024] ![9, 1, 1] (res_main_v4 V) slicesBy_S128x512x2048_S8x512x1024_16s9_0s1_1024s1))
      (Host.slice S8x512x1024 ![8, 0, 1024] ![9, 1, 1] (res_main_v4 V) slicesBy_S128x512x2048_S8x512x1024_8s9_0s1_1024s1))
      (Host.slice S8x512x1024 ![0, 0, 1024] ![9, 1, 1] (res_main_v4 V) slicesBy_S128x512x2048_S8x512x1024_0s9_0s1_1024s1)) := by
  unfold res_main_v191 res_main_v73 res_main_v166
  rfl

end Shape

end Cert.ReferenceIdeal.Whole
-- ==== Proof.Value.RefParts.lean ====
/-
  The reference's product, its slices and its joined halves, entry by entry.
-/
module

public import proofs.«01_k».proof.Proof.Value.RefSteps
public import Idealize.ShloMosaic.Lib.KernelVsHost
public import Idealize.ShloMosaic.Lib.Pipeline.Value

@[expose] public section

noncomputable section

namespace Cert.ReferenceIdeal.Whole

open Idealize.ShloMosaic Idealize.ShloMosaic.TcCoe Idealize.ShloMosaic.ValueIdx Idealize.ShloMosaic.StableHlo
open Cert.ReferenceIdeal Cert.ReferenceIdeal.Gen Cert.ReferenceIdeal.Value Cert.Value

theorem step_apply (v p : FVec Ideal S8x512x1024 .f32) (j : S8x512x1024.Idx) : @Eq EReal (step v p j) (wire (v j) + p j) := rfl

/-- The joined halves at an entry. -/
theorem joined_left (l r : FVec Ideal S8x512x1024 .f32) (R : Fin 4096) (n : Fin 2048) (h : n.val < 1024) :
    joined l r (ix2 R n) = l (ix3 (blockOf R) ⟨R.val % 512, Nat.mod_lt _ (by decide)⟩ ⟨n.val, h⟩) := by
  unfold joined
  refine Eq.trans (concatenate_apply_piece (t := S4096x2048) 1 _ _ (ix2 R n) 0 (by simp) S4096x1024 _ rfl rfl 0 rfl (ix2 R ⟨n.val, h⟩)
    (fun b hb => ?_) ?_) ?_
  · match b with
    | ⟨0, _⟩ => rfl
    | ⟨1, _⟩ => exact absurd rfl hb
  · show 0 + n.val = n.val; omega
  · exact shapeCast_apply _ _ _ _ (by
      rw [Shape.rowMajor_val_three, Shape.rowMajor_val_two]
      show (R.val / 512 * 512 + R.val % 512) * 1024 + n.val = R.val * 1024 + n.val
      omega)
theorem joined_right (l r : FVec Ideal S8x512x1024 .f32) (R : Fin 4096) (n : Fin 2048) (h : ¬ n.val < 1024) :
    joined l r (ix2 R n) = r (ix3 (blockOf R) ⟨R.val % 512, Nat.mod_lt _ (by decide)⟩ ⟨n.val - 1024, by omega⟩) := by
  unfold joined
  refine Eq.trans (concatenate_apply_piece (t := S4096x2048) 1 _ _ (ix2 R n) 1 (by simp) S4096x1024 _ rfl rfl 1024 rfl
    (ix2 R ⟨n.val - 1024, by omega⟩) (fun b hb => ?_) ?_) ?_
  · match b with
    | ⟨0, _⟩ => rfl
    | ⟨1, _⟩ => exact absurd rfl hb
  · show 1024 + (n.val - 1024) = n.val; omega
  · exact shapeCast_apply _ _ _ _ (by
      rw [Shape.rowMajor_val_three, Shape.rowMajor_val_two]
      show (R.val / 512 * 512 + R.val % 512) * 1024 + (n.val - 1024) = R.val * 1024 + (n.val - 1024)
      omega)

/-- The batched product of the reference: one product a device. -/
theorem dot_apply (A : FVec Ideal S4096x8x512 .bf16) (B : FVec Ideal S8x512x2048 .bf16) (g : Fin 8) (a : Fin 4096) (b : Fin 2048) :
    @Eq EReal (Host.dotGeneral dot_S4096x8x512_S8x512x2048_S8x4096x2048_2_1_0_2_1_0 none A B (ix3 g a b)) (∑ k : Fin 512, A (ix3 a g k) * B (ix3 g k b)) := by
  show FloatOps.dotGeneral _ none _ A B (ix3 g a b) = _
  rw [Ideal.dotGeneral_apply,
    ← Equiv.sum_comp (contrEquiv1 dot_S4096x8x512_S8x512x2048_S8x4096x2048_2_1_0_2_1_0 512 rfl rfl).symm]
  refine Finset.sum_congr rfl fun k _ => ?_
  have hk := contrEquiv1_symm_val dot_S4096x8x512_S8x512x2048_S8x4096x2048_2_1_0_2_1_0 512 rfl rfl k
  have hl : dot_S4096x8x512_S8x512x2048_S8x4096x2048_2_1_0_2_1_0.lhsIdx (ix3 g a b) ((contrEquiv1 _ 512 rfl rfl).symm k) = ix3 a g k := by
    funext ax; apply Fin.ext
    match ax with
    | ⟨0, _⟩ => simp [DotDims.lhsIdx, dot_S4096x8x512_S8x512x2048_S8x4096x2048_2_1_0_2_1_0]; rfl
    | ⟨1, _⟩ => simp [DotDims.lhsIdx, dot_S4096x8x512_S8x512x2048_S8x4096x2048_2_1_0_2_1_0]; rfl
    | ⟨2, _⟩ => simp [DotDims.lhsIdx, dot_S4096x8x512_S8x512x2048_S8x4096x2048_2_1_0_2_1_0]; exact hk
  have hr : dot_S4096x8x512_S8x512x2048_S8x4096x2048_2_1_0_2_1_0.rhsIdx (ix3 g a b) ((contrEquiv1 _ 512 rfl rfl).symm k) = ix3 g k b := by
    funext ax; apply Fin.ext
    match ax with
    | ⟨0, _⟩ => simp [DotDims.rhsIdx, dot_S4096x8x512_S8x512x2048_S8x4096x2048_2_1_0_2_1_0]; rfl
    | ⟨1, _⟩ => simp [DotDims.rhsIdx, dot_S4096x8x512_S8x512x2048_S8x4096x2048_2_1_0_2_1_0]; exact hk
    | ⟨2, _⟩ => simp [DotDims.rhsIdx, dot_S4096x8x512_S8x512x2048_S8x4096x2048_2_1_0_2_1_0]; rfl
  rw [hl, hr]

/-- The product twice over, at an entry. -/
theorem twice_apply (x : FVec Ideal S8x4096x2048 .f32) (g : Fin 16) (R : Fin 4096) (n : Fin 2048) :
    concatenate S16x4096x2048 0 [⟨S8x4096x2048, x⟩, ⟨S8x4096x2048, x⟩] concatenates_S8x4096x2048_S8x4096x2048_S16x4096x2048_d0 (ix3 g R n)
      = x (ix3 ⟨g.val % 8, Nat.mod_lt _ (by decide)⟩ R n) := by
  have hb : ∀ (u : Fin 8) (b : Fin 3), b ≠ (0 : Fin 3) → ((ix3 u R n : S8x4096x2048.Idx) b).val = ((ix3 g R n : S16x4096x2048.Idx) b).val := by
    intro u b hb
    match b with
    | ⟨0, _⟩ => exact absurd rfl hb
    | ⟨1, _⟩ => rfl
    | ⟨2, _⟩ => rfl
  by_cases h : g.val < 8
  · exact concatenate_apply_piece (t := S16x4096x2048) 0 _ _ (ix3 g R n) 0 (by simp) S8x4096x2048 x rfl rfl 0 rfl
      (ix3 ⟨g.val % 8, Nat.mod_lt _ (by decide)⟩ R n) (fun b h => hb _ b h) (by show 0 + g.val % 8 = g.val; omega)
  · exact concatenate_apply_piece (t := S16x4096x2048) 0 _ _ (ix3 g R n) 1 (by simp) S8x4096x2048 x rfl rfl 8 rfl
      (ix3 ⟨g.val % 8, Nat.mod_lt _ (by decide)⟩ R n) (fun b h => hb _ b h) (by show 8 + g.val % 8 = g.val; omega)

section Entries

variable (V : Valuation τ sig (Elt Ideal))

abbrev argX : MatX := V (Proc.devRef .tc main_arg0)
abbrev argW : MatW := V (Proc.devRef .tc main_arg1)

theorem prod_apply (X : FVec Ideal S4096x4096 .bf16) (W : FVec Ideal S4096x2048 .bf16) (g : Fin 8) (R : Fin 4096) (n : Fin 2048) :
    @Eq EReal (Host.dotGeneral dot_S4096x8x512_S8x512x2048_S8x4096x2048_2_1_0_2_1_0 none (shapeCast S4096x8x512 X shapeCasts_S4096x4096_S4096x8x512)
      (shapeCast S8x512x2048 W shapeCasts_S4096x2048_S8x512x2048) (ix3 g R n)) (part X W g R n) := by
  rw [dot_apply]
  unfold part
  refine Finset.sum_congr rfl fun k _ => ?_
  congr 1
  · exact shapeCast_apply _ _ _ _ (by
      rw [Shape.rowMajor_val_three, Shape.rowMajor_val_two]
      show R.val * 4096 + (512 * g.val + k.val) = (R.val * 8 + g.val) * 512 + k.val
      omega)
  · exact shapeCast_apply _ _ _ _ (by
      rw [Shape.rowMajor_val_three, Shape.rowMajor_val_two]
      show (512 * g.val + k.val) * 2048 + n.val = (g.val * 512 + k.val) * 2048 + n.val
      omega)

theorem v2_apply (g : Fin 8) (R : Fin 4096) (n : Fin 2048) : @Eq EReal (res_main_v2 V (ix3 g R n)) (part (argX V) (argW V) g R n) :=
  prod_apply (argX V) (argW V) g R n

theorem blocks_apply (x : FVec Ideal S8x4096x2048 .f32) (b : Fin 8) (d : ℕ) (hd : d ≤ 8) (r : Fin 512) (n : Fin 2048) :
    shapeCast S128x512x2048 (concatenate S16x4096x2048 0 [⟨S8x4096x2048, x⟩, ⟨S8x4096x2048, x⟩] concatenates_S8x4096x2048_S8x4096x2048_S16x4096x2048_d0)
        shapeCasts_S16x4096x2048_S128x512x2048 (ix3 ⟨8 * d + 9 * b.val, by omega⟩ r n)
      = x (ix3 ⟨(b.val + d) % 8, Nat.mod_lt _ (by decide)⟩ ⟨512 * b.val + r.val, by omega⟩ n) := by
  rw [shapeCast_apply _ _ _ (ix3 (⟨b.val + d, by omega⟩ : Fin 16) (⟨512 * b.val + r.val, by omega⟩ : Fin 4096) n) (by
    rw [Shape.rowMajor_val_three, Shape.rowMajor_val_three]
    show ((b.val + d) * 4096 + (512 * b.val + r.val)) * 2048 + n.val = ((8 * d + 9 * b.val) * 512 + r.val) * 2048 + n.val
    ring)]
  exact twice_apply x _ _ _

theorem v4_apply (b : Fin 8) (d : ℕ) (hd : d ≤ 8) (r : Fin 512) (n : Fin 2048) :
    @Eq EReal (res_main_v4 V (ix3 ⟨8 * d + 9 * b.val, by omega⟩ r n))
      (part (argX V) (argW V) ⟨(b.val + d) % 8, Nat.mod_lt _ (by decide)⟩ ⟨512 * b.val + r.val, by omega⟩ n) :=
  (blocks_apply (res_main_v2 V) b d hd r n).trans (v2_apply V _ _ _)

/-- The part device `g` contributes to an entry, as the reference slices it. -/
theorem slice_at (R : Fin 4096) (n : Fin 2048) (t d lo : ℕ) (h : S128x512x2048.SlicesBy ![t, 0, lo] ![9, 1, 1] S8x512x1024) (g : Fin 8) (k : Fin 1024)
    (ht : t = 8 * d) (hd : d ≤ 8) (hg : (R.val / 512 + d) % 8 = g.val) (hn : lo + k.val = n.val) :
    @Eq EReal (Host.slice S8x512x1024 ![t, 0, lo] ![9, 1, 1] (res_main_v4 V) h (ix3 (blockOf R) ⟨R.val % 512, Nat.mod_lt _ (by decide)⟩ k))
      (part (argX V) (argW V) g R n) := by
  subst ht
  have hR : R.val / 512 < 8 := (blockOf R).isLt
  have e : Host.slice S8x512x1024 ![8 * d, 0, lo] ![9, 1, 1] (res_main_v4 V) h (ix3 (blockOf R) ⟨R.val % 512, Nat.mod_lt _ (by decide)⟩ k)
      = res_main_v4 V (ix3 ⟨8 * d + 9 * (blockOf R).val, by show 8 * d + 9 * (R.val / 512) < 128; omega⟩ ⟨R.val % 512, Nat.mod_lt _ (by decide)⟩ n) := by
    unfold Host.slice
    congr 1
    funext a
    apply Fin.ext
    match a with
    | ⟨0, _⟩ => rfl
    | ⟨1, _⟩ => show 0 + 1 * (R.val % 512) = R.val % 512; omega
    | ⟨2, _⟩ => show lo + 1 * k.val = n.val; omega
  refine e.trans ((v4_apply V (blockOf R) d hd ⟨R.val % 512, Nat.mod_lt _ (by decide)⟩ n).trans ?_)
  congr 1
  · exact Fin.ext hg
  · exact Fin.ext (by show 512 * (R.val / 512) + R.val % 512 = R.val; omega)

end Entries

end Cert.ReferenceIdeal.Whole
-- ==== Proof.Value.RefTotal.lean ====
/-
  The reference's sum is `Cert.Value.total`.
-/
module

public import proofs.«01_k».proof.Proof.Value.RefParts

@[expose] public section

noncomputable section

namespace Cert.ReferenceIdeal.Whole

open Idealize.ShloMosaic Idealize.ShloMosaic.TcCoe Idealize.ShloMosaic.ValueIdx Idealize.ShloMosaic.StableHlo
open Cert.ReferenceIdeal Cert.ReferenceIdeal.Gen Cert.ReferenceIdeal.Value Cert.Value

variable (V : Valuation τ sig (Elt Ideal))

/-- The sum of the reference. -/
theorem sum_apply (R : Fin 4096) (n : Fin 2048) : @Eq EReal (res_main_v191 V (ix2 R n)) (total (argX V) (argW V) R n) := by
  rw [sum_eq]
  have hR : R.val / 512 < 8 := (blockOf R).isLt
  unfold total
  by_cases h : n.val < 1024
  · refine (joined_left _ _ R n h).trans ?_
    rw [decide_eq_true h]
    have g : ∀ k : ℕ, (R.val / 512 + k) % 8 = (go true (blockOf R) k).val := fun k => rfl
    simp only [ringSum, step_apply]
    rw [slice_at V R n 8 1 0 _ _ _ rfl (by omega) (g 1) (Nat.zero_add _), slice_at V R n 16 2 0 _ _ _ rfl (by omega) (g 2) (Nat.zero_add _),
      slice_at V R n 24 3 0 _ _ _ rfl (by omega) (g 3) (Nat.zero_add _), slice_at V R n 32 4 0 _ _ _ rfl (by omega) (g 4) (Nat.zero_add _),
      slice_at V R n 40 5 0 _ _ _ rfl (by omega) (g 5) (Nat.zero_add _), slice_at V R n 48 6 0 _ _ _ rfl (by omega) (g 6) (Nat.zero_add _),
      slice_at V R n 56 7 0 _ _ _ rfl (by omega) (g 7) (Nat.zero_add _), slice_at V R n 64 8 0 _ _ _ rfl (by omega) (g 8) (Nat.zero_add _)]
  · refine (joined_right _ _ R n h).trans ?_
    rw [decide_eq_false h]
    have g : ∀ d k : ℕ, d + k = 8 → (R.val / 512 + d) % 8 = (go false (blockOf R) k).val := by
      intro d k e; show _ = (R.val / 512 + 7 * k) % 8; omega
    have hn : 1024 + (⟨n.val - 1024, by omega⟩ : Fin 1024).val = n.val := by show 1024 + (n.val - 1024) = n.val; omega
    simp only [ringSum, step_apply]
    rw [slice_at V R n 56 7 1024 _ _ _ rfl (by omega) (g 7 1 rfl) hn, slice_at V R n 48 6 1024 _ _ _ rfl (by omega) (g 6 2 rfl) hn,
      slice_at V R n 40 5 1024 _ _ _ rfl (by omega) (g 5 3 rfl) hn, slice_at V R n 32 4 1024 _ _ _ rfl (by omega) (g 4 4 rfl) hn,
      slice_at V R n 24 3 1024 _ _ _ rfl (by omega) (g 3 5 rfl) hn, slice_at V R n 16 2 1024 _ _ _ rfl (by omega) (g 2 6 rfl) hn,
      slice_at V R n 8 1 1024 _ _ _ rfl (by omega) (g 1 7 rfl) hn, slice_at V R n 0 0 1024 _ _ _ rfl (by omega) (g 0 8 rfl) hn]

end Cert.ReferenceIdeal.Whole
-- ==== Proof.Value.RefMax.lean ====
/-
  The reference's largest magnitude is the least upper bound of the magnitudes, and its result scales by it.
-/
module

public import proofs.«01_k».proof.Proof.Value.RefSteps
public import Idealize.ShloMosaic.PureOps.Reduce

@[expose] public section

noncomputable section

namespace Cert.ReferenceIdeal.Whole

open Idealize.ShloMosaic Idealize.ShloMosaic.TcCoe Idealize.ShloMosaic.ValueIdx Idealize.ShloMosaic.StableHlo
open Cert.ReferenceIdeal Cert.ReferenceIdeal.Gen Cert.ReferenceIdeal.Value Cert.Value

/-- The largest magnitude of a sum. -/
def largest (y : FVec Ideal S4096x2048 .f32) : Ideal .f32 :=
  Host.reduce FloatOps.maximumf (Host.absf y) (constant (F := Ideal) S_ .f32 0xFF800000#32) reducesTo_S4096x2048_S_d0_1 h_S_ (Shape.Idx.first h_S_)

instance : Std.Commutative (FloatOps.maximumf : Ideal .f32 → Ideal .f32 → Ideal .f32) := ⟨fun a b => max_comm (a : EReal) b⟩
instance : Std.Associative (FloatOps.maximumf : Ideal .f32 → Ideal .f32 → Ideal .f32) := ⟨fun a b c => max_assoc (a : EReal) b c⟩

theorem largest_eq (y : FVec Ideal S4096x2048 .f32) :
    @Eq EReal (largest y) (Finset.univ.fold (fun a b : EReal => max a b) (⊥ : EReal) (fun i : S4096x2048.Idx => max (y i : EReal) (-(y i : EReal)))) := by
  have hd : ∀ i : S4096x2048.Idx, reducesTo_S4096x2048_S_d0_1.drop i = Shape.Idx.first h_S_ := fun i => funext fun a => a.elim0
  unfold largest
  rw [Host.reduce_eq_fold, Finset.filter_true_of_mem (fun i _ => hd i)]
  show @Eq EReal (Finset.fold _ (Ideal.ofBits .f32 0xFF800000#32) _ _) _
  rw [bits_bot]
  rfl

theorem largest_le (y : FVec Ideal S4096x2048 .f32) (T : Fin 4096 → Fin 2048 → EReal) (hT : ∀ R n, @Eq EReal (y (ix2 R n)) (T R n)) (b : EReal) :
    @LE.le EReal _ (largest y) b ↔ ∀ R n, max (T R n) (-(T R n)) ≤ b := by
  rw [largest_eq, Finset.fold_max_le]
  constructor
  · intro h R n
    have := h.2 (ix2 R n) (Finset.mem_univ _)
    rwa [hT] at this
  · intro h
    refine ⟨bot_le, fun i _ => ?_⟩
    have hy : @Eq EReal (y i) (T (i 0) (i 1)) := (congrArg y (eq_ix2 i)).trans (hT (i 0) (i 1))
    show max (y i : EReal) (-(y i : EReal)) ≤ b
    rw [hy]
    exact h (i 0) (i 1)

/-- The scale of the reference. -/
theorem scale_eq (V : Valuation τ sig (Elt Ideal)) (j : S_.Idx) :
    @Eq EReal (res_main_v194 V j) (Ideal.div (largest (res_main_v191 V)) (Ideal.ofBits .f32 0x43E00000#32)) := by
  have hs : j = Shape.Idx.first h_S_ := funext fun a => a.elim0
  rw [hs]
  unfold res_main_v194 largest
  rfl

/-- The result of a sum `y` and a scale `s`. -/
def result (y : FVec Ideal S4096x2048 .f32) (s : FVec Ideal S_ .f32) : FVec Ideal S4096x2048 .f32 :=
  mulf (minimumf (broadcastInDim S4096x2048 ![] bcast_S_S4096x2048 (id (constant S_ .f32 0x43E00000#32)))
    (maximumf (broadcastInDim S4096x2048 ![] bcast_S_S4096x2048 (id (constant S_ .f32 0xC3E00000#32)))
      (Host.divf y (broadcastInDim S4096x2048 ![] bcast_S_S4096x2048 s)))) (broadcastInDim S4096x2048 ![] bcast_S_S4096x2048 s)

theorem result_apply (y : FVec Ideal S4096x2048 .f32) (s : FVec Ideal S_ .f32) (g : EReal) (hs : ∀ j, @Eq EReal (s j) g) (i : S4096x2048.Idx) :
    @Eq EReal (result y s i) (clip (Ideal.div (y i) g) * g) := by
  have eb : @Eq EReal ((broadcastInDim S4096x2048 ![] bcast_S_S4096x2048 s : FVec Ideal S4096x2048 .f32) i) g := hs _
  rw [← eb]
  rfl

end Cert.ReferenceIdeal.Whole
-- ==== Proof.Value.Algebraic.lean ====
/-
  The value claim: from the blocks of whole arguments, device `c` ends with block `c` of the reference's result.
-/
module

public import proofs.«01_k».proof.Defs
public import proofs.«01_k».proof.Proof.KernelIdeal.Launched
public import proofs.«01_k».proof.Proof.Gen.ReferenceIdeal.Run
public import proofs.«01_k».proof.Proof.Value.KerMax
public import proofs.«01_k».proof.Proof.Value.RefTotal
public import proofs.«01_k».proof.Proof.Value.RefMax
public import Idealize.ShloMosaic.Lib.Layout

@[expose] public section

noncomputable section

namespace Cert.Proof

open Idealize.ShloMosaic Idealize.ShloMosaic.TcCoe Idealize.SL.Sem Idealize.ShloMosaic.ValueIdx Idealize.ShloMosaic.StableHlo
open Cert.Value

section Kernel

open Cert.KernelIdeal Cert.KernelIdeal.Gen Cert.KernelIdeal.Ring

variable (m : (ℓ : Loc nD τ sig) → Buf (Elt Ideal) ℓ) (ρ : Dev nD → PrngReg)

/-- The result array at the end: what the body leaves in the one block, which is the whole array. -/
theorem finalA_result (c : Dev nD) : finalA (F := Ideal) m ρ c (2 : Fin 3) = outAt (F := Ideal) (xg m) (wg m) c := by
  have hz : (fun a => (win0_2.index (0 : Fin 1)) a * main_v1.ty.shape.size a) = fun _ => 0 := funext fun a => by fin_cases a <;> decide
  have h : (win0_2.blk (0 : Fin 1)).view.read (Elt Ideal) (finalA (F := Ideal) m ρ c (2 : Fin 3)) = outAt (F := Ideal) (xg m) (wg m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 hz (fun a => by fin_cases a <;> decide) _).symm.trans h

/-- The two argument blocks are the whole argument arrays of the device. -/
theorem xg_eq (c : Dev nD) : xg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem wg_eq (c : Dev nD) : wg m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

end Kernel

section Blocks

variable (A : MatX) (B : MatW)

theorem block_x (c : Fin 8) (h : Layout.Tiles ⟨2, ![4096, 512]⟩ ⟨2, ![4096, 4096]⟩ 1 8) (R : Fin 4096) (k : Fin 512) :
    Layout.block ⟨2, ![4096, 512]⟩ ⟨2, ![4096, 4096]⟩ 1 8 c A h (ix2 R k) = A (ix2 R (inner c k)) := by
  refine congrArg A ((eq_ix2 _).trans ?_)
  exact congrArg₂ ix2 (Fin.ext rfl) (Fin.ext (by show c.val * 512 + k.val = 512 * c.val + k.val; omega))

theorem block_w (c : Fin 8) (h : Layout.Tiles ⟨2, ![512, 2048]⟩ ⟨2, ![4096, 2048]⟩ 0 8) (k : Fin 512) (n : Fin 2048) :
    Layout.block ⟨2, ![512, 2048]⟩ ⟨2, ![4096, 2048]⟩ 0 8 c B h (ix2 k n) = B (ix2 (inner c k) n) := by
  refine congrArg B ((eq_ix2 _).trans ?_)
  exact congrArg₂ ix2 (Fin.ext (by show c.val * 512 + k.val = 512 * c.val + k.val; omega)) (Fin.ext rfl)

end Blocks

/-- Scaling by a quotient and dividing by its inverse agree. -/
theorem same_entry {o g G t y s : EReal}
    (hk : o = clip (t * Ideal.div (Ideal.ofBits .f32 0x43E00000#32) g) * Ideal.div g (Ideal.ofBits .f32 0x43E00000#32)) (hg : g = G) (hs : y = t)
    (hr : s = clip (Ideal.div y (Ideal.div G (Ideal.ofBits .f32 0x43E00000#32))) * Ideal.div G (Ideal.ofBits .f32 0x43E00000#32)) : o = s := by
  subst hg hs
  rw [hk, hr, scaled]

/-- The two programs' largest magnitudes are one number, so an entry of a device's result is the reference's entry. -/
theorem entry_eq (V : Valuation Cert.ReferenceIdeal.τ Cert.ReferenceIdeal.sig (Elt Ideal))
    (xs : Dev Cert.KernelIdeal.nD → FVec Ideal Cert.KernelIdeal.S4096x512 .bf16) (ws : Dev Cert.KernelIdeal.nD → FVec Ideal Cert.KernelIdeal.S512x2048 .bf16)
    (hX : ∀ (c : Fin 8) (R : Fin 4096) (k : Fin 512), @Eq EReal (xs c (ix2 R k)) (Cert.ReferenceIdeal.Whole.argX V (ix2 R (inner c k))))
    (hW : ∀ (c : Fin 8) (k : Fin 512) (n : Fin 2048), @Eq EReal (ws c (ix2 k n)) (Cert.ReferenceIdeal.Whole.argW V (ix2 (inner c k) n)))
    (c : Fin 8) (r : Fin 512) (n : Fin 2048) :
    @Eq EReal (Cert.KernelIdeal.Ring.outAt (F := Ideal) xs ws c (ix2 r n))
      (Cert.ReferenceIdeal.Whole.result (Cert.ReferenceIdeal.Value.res_main_v191 V) (Cert.ReferenceIdeal.Value.res_main_v194 V)
        (ix2 (inner c r) n)) := by
  have hg : @Eq EReal (Cert.KernelIdeal.Ring.gmax (F := Ideal) xs ws) (Cert.ReferenceIdeal.Whole.largest (Cert.ReferenceIdeal.Value.res_main_v191 V)) :=
    eq_of_forall_ge_iff fun b => (Cert.KernelIdeal.Ring.gmax_le _ _ xs ws hX hW b).trans
      (Cert.ReferenceIdeal.Whole.largest_le _ _ (Cert.ReferenceIdeal.Whole.sum_apply V) b).symm
  have hk := Cert.KernelIdeal.Ring.outAt_apply _ _ xs ws hX hW c r n
  have hr := Cert.ReferenceIdeal.Whole.result_apply (Cert.ReferenceIdeal.Value.res_main_v191 V) (Cert.ReferenceIdeal.Value.res_main_v194 V) _
    (Cert.ReferenceIdeal.Whole.scale_eq V) (ix2 (inner c r) n)
  have hs := Cert.ReferenceIdeal.Whole.sum_apply V (inner c r) n
  exact same_entry hk hg hs hr

theorem algebraic : Cert.algebraic_KernelIdeal_ReferenceIdeal := by
  intro m g m' g' _ hagree
  let V := launchContents m' (0 : Dev Cert.ReferenceIdeal.nD)
  have hX : ∀ (c : Fin 8) (R : Fin 4096) (k : Fin 512),
      @Eq EReal (Cert.KernelIdeal.Ring.xg m c (ix2 R k)) (Cert.ReferenceIdeal.Whole.argX V (ix2 R (inner c k))) := fun c R k =>
    (congrFun ((xg_eq m c).trans (hagree c).1) (ix2 R k)).trans (block_x (Cert.ReferenceIdeal.Whole.argX V) c _ R k)
  have hW : ∀ (c : Fin 8) (k : Fin 512) (n : Fin 2048),
      @Eq EReal (Cert.KernelIdeal.Ring.wg m c (ix2 k n)) (Cert.ReferenceIdeal.Whole.argW V (ix2 (inner c k) n)) := fun c k n =>
    (congrFun ((wg_eq m c).trans (hagree c).2) (ix2 k n)).trans (block_w (Cert.ReferenceIdeal.Whole.argW V) c _ k n)
  refine ⟨Cert.ReferenceIdeal.Whole.result (Cert.ReferenceIdeal.Value.res_main_v191 V) (Cert.ReferenceIdeal.Value.res_main_v194 V), ?_, ?_⟩
  · refine (θ_run Cert.KernelIdeal.defs _ _).mono (fun r h c => ⟨?_,
      (h.1 c (0 : Fin 3)).trans ((Cert.KernelIdeal.Ring.dats (F := Ideal) m g 0 c).arrAt_in (0 : Fin 3) rfl _),
      (h.1 c (1 : Fin 3)).trans ((Cert.KernelIdeal.Ring.dats (F := Ideal) m g 0 c).arrAt_in (1 : Fin 3) rfl _)⟩)
      (Cert.KernelIdeal.Ring.run_main (F := Ideal) m g)
    refine (h.1 c (2 : Fin 3)).trans ((finalA_result m g c).trans (funext fun i => ?_))
    refine (congrArg (Cert.KernelIdeal.Ring.outAt (F := Ideal) (Cert.KernelIdeal.Ring.xg m) (Cert.KernelIdeal.Ring.wg m) c) (eq_ix2 i)).trans ?_
    refine (entry_eq V _ _ hX hW c (i 0) (i 1)).trans ?_
    refine (block_w (Cert.ReferenceIdeal.Whole.result (Cert.ReferenceIdeal.Value.res_main_v191 V) (Cert.ReferenceIdeal.Value.res_main_v194 V)) c
      (by decide) (i 0) (i 1)).symm.trans ?_
    exact congrArg _ (eq_ix2 i).symm
  · exact (θ_run Cert.ReferenceIdeal.defs _ _).mono (fun r h => h (0 : Dev Cert.ReferenceIdeal.nD))
      (Cert.ReferenceIdeal.Value.run (F := Ideal) m' g')

end Cert.Proof

end
-- ==== Proof.lean ====
module

public import proofs.«01_k».proof.Defs
public import proofs.«01_k».proof.Proof.Claims
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, preserves, algebraic⟩

end Cert.Proof

end
